-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v24)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4x4096x3072 : Shape := ⟨3, ![4, 4096, 3072]⟩
abbrev S32 : Shape := ⟨1, ![32]⟩
abbrev S1x32 : Shape := ⟨2, ![1, 32]⟩
abbrev S96x32 : Shape := ⟨2, ![96, 32]⟩
abbrev S3072 : Shape := ⟨1, ![3072]⟩
abbrev S1x1x3072 : Shape := ⟨3, ![1, 1, 3072]⟩
abbrev S_ : Shape := ⟨0, ![]⟩

class Facts : Prop where
  shapeCasts_S32_S1x32 : S32.ShapeCasts S1x32
  bcast_S1x32_S96x32_0_1 : S1x32.BroadcastsInDim S96x32 (![0, 1] : Fin 2 → Fin S96x32.rank)
  shapeCasts_S96x32_S3072 : S96x32.ShapeCasts S3072
  bcast_S3072_S1x1x3072_2 : S3072.BroadcastsInDim S1x1x3072 (![2] : Fin 1 → Fin S1x1x3072.rank)
  bitsLt_bf16_f32 : FTy.bits .bf16 < FTy.bits .f32
  bcast_S_S4x4096x3072 : S_.BroadcastsInDim S4x4096x3072 (![] : Fin 0 → Fin S4x4096x3072.rank)
  bcast_S_S1x1x3072 : S_.BroadcastsInDim S1x1x3072 (![] : Fin 0 → Fin S1x1x3072.rank)
  bcast_S1x1x3072_S4x4096x3072_0_1_2 : S1x1x3072.BroadcastsInDim S4x4096x3072 (![0, 1, 2] : Fin 3 → Fin S4x4096x3072.rank)

variable [Facts]

def fn {F : FTy → Type} [FloatOps F] (main_arg0 : FVec F S4x4096x3072 .bf16) (main_arg1 : FVec F S32 .f32) : IVec S4x4096x3072 1 :=
  let main_v0 : FVec F S1x32 .f32 := shapeCast S1x32 main_arg1 shapeCasts_S32_S1x32
  let main_v1 : FVec F S96x32 .f32 := broadcastInDim S96x32 ![0, 1] bcast_S1x32_S96x32_0_1 main_v0
  let main_v2 : FVec F S3072 .f32 := shapeCast S3072 main_v1 shapeCasts_S96x32_S3072
  let main_v3 : FVec F S1x1x3072 .f32 := broadcastInDim S1x1x3072 ![2] bcast_S3072_S1x1x3072_2 main_v2
  let main_v4 : FVec F S4x4096x3072 .f32 := (extf .f32 · bitsLt_bf16_f32) main_arg0
  let main_v5 : FVec F S4x4096x3072 .f32 := Host.absf main_v4
  let main_cst : FVec F S_ .f32 := constant S_ .f32 0x7F800000#32
  let main_v6 : FVec F S4x4096x3072 .f32 := broadcastInDim S4x4096x3072 ![] bcast_S_S4x4096x3072 main_cst
  let main_v7 : IVec S4x4096x3072 1 := cmpf .olt main_v5 main_v6
  let main_v8 : FVec F S1x1x3072 .f32 := Host.absf main_v3
  let main_cst_0 : FVec F S_ .f32 := constant S_ .f32 0x7F800000#32
  let main_v9 : FVec F S1x1x3072 .f32 := broadcastInDim S1x1x3072 ![] bcast_S_S1x1x3072 main_cst_0
  let main_v10 : IVec S1x1x3072 1 := cmpf .olt main_v8 main_v9
  let main_v11 : IVec S4x4096x3072 1 := broadcastInDim S4x4096x3072 ![0, 1, 2] bcast_S1x1x3072_S4x4096x3072_0_1_2 main_v10
  let main_v12 : IVec S4x4096x3072 1 := andi main_v7 main_v11
  main_v12
-- ==== Kernel.lean ====
abbrev S4x4096x3072 : Shape := ⟨3, ![4, 4096, 3072]⟩
abbrev S32 : Shape := ⟨1, ![32]⟩
abbrev S4096 : Shape := ⟨1, ![4096]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4x4096x2048 : Shape := ⟨3, ![4, 4096, 2048]⟩
abbrev S1x128x2048 : Shape := ⟨3, ![1, 128, 2048]⟩
abbrev S1x128x512 : Shape := ⟨3, ![1, 128, 512]⟩
abbrev S128x128 : Shape := ⟨2, ![128, 128]⟩
abbrev S128x384 : Shape := ⟨2, ![128, 384]⟩
abbrev S1x128x128 : Shape := ⟨3, ![1, 128, 128]⟩
abbrev S384x128 : Shape := ⟨2, ![384, 128]⟩
abbrev S384x64 : Shape := ⟨2, ![384, 64]⟩
abbrev S128x64 : Shape := ⟨2, ![128, 64]⟩
abbrev S1 : Shape := ⟨1, ![1]⟩
abbrev S128 : Shape := ⟨1, ![128]⟩
abbrev S128x1 : Shape := ⟨2, ![128, 1]⟩
abbrev S1x128x64 : Shape := ⟨3, ![1, 128, 64]⟩

abbrev nBuf : Space → Nat
  | .hbm => 34
  | .vmem => 28
  | .smem => 1
  | _ => 0

abbrev bufTy : (tb : Table) → Fin (tcTables nBuf tb) → BufTy
  | .hbm, ⟨0, _⟩ => ⟨S4x4096x3072, .bf16⟩
  | .hbm, ⟨1, _⟩ => ⟨S32, .f32⟩
  | .hbm, ⟨2, _⟩ => ⟨S4096, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x64, .f32⟩
  | .hbm, ⟨25, _⟩ => ⟨S1x4096x1x64, .f32⟩
  | .hbm, ⟨26, _⟩ => ⟨S1x4096x2x64, .f32⟩
  | .hbm, ⟨27, _⟩ => ⟨S4096x128, .f32⟩
  | .hbm, ⟨28, _⟩ => ⟨S4096x32, .f32⟩
  | .hbm, ⟨29, _⟩ => ⟨S4096x64, .f32⟩
  | .hbm, ⟨30, _⟩ => ⟨S1x4096x1x64, .f32⟩
  | .hbm, ⟨31, _⟩ => ⟨S1x4096x2x64, .f32⟩
  | .hbm, ⟨32, _⟩ => ⟨S4096x128, .f32⟩
  | .hbm, ⟨33, _⟩ => ⟨S4x4096x2048, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S1x128x2048, .bf16⟩
  | .local _ .vmem, ⟨27, _⟩ => ⟨S1x128x2048, .bf16⟩
  | .local _ .smem, ⟨0, _⟩ => ⟨S32, .f32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  ![arg0.toNat, v1.toNat, c4_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c4_i32 : BitVec 32 := 4#32
  let c0_i32 : BitVec 32 := 0#32
  ![arg0.toNat, v1.toNat, c4_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c5_i32 : BitVec 32 := 5#32
  let c0_i32_0 : BitVec 32 := 0#32
  ![arg0.toNat, v1.toNat, c5_i32.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c5_i32 : BitVec 32 := 5#32
  let c0_i32 : BitVec 32 := 0#32
  ![arg0.toNat, v1.toNat, c5_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x3072 : Shape := ⟨3, ![4, 4096, 3072]⟩
abbrev S32 : Shape := ⟨1, ![32]⟩
abbrev S4x4096x2048 : Shape := ⟨3, ![4, 4096, 2048]⟩
abbrev S4x4096x32x64 : Shape := ⟨4, ![4, 4096, 32, 64]⟩
abbrev S4x4096x512 : Shape := ⟨3, ![4, 4096, 512]⟩
abbrev S4x4096x8x64 : Shape := ⟨4, ![4, 4096, 8, 64]⟩
abbrev S4096 : Shape := ⟨1, ![4096]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x32x32 : Shape := ⟨4, ![4, 4096, 32, 32]⟩
abbrev S4x4096x8x32 : Shape := ⟨4, ![4, 4096, 8, 32]⟩
abbrev S4x32x128x8x4x64 : Shape := ⟨6, ![4, 32, 128, 8, 4, 64]⟩
abbrev S4x4352x8x64 : Shape := ⟨4, ![4, 4352, 8, 64]⟩
abbrev S4x34x128x8x64 : Shape := ⟨5, ![4, 34, 128, 8, 64]⟩
abbrev S4x32x128x8x64 : Shape := ⟨5, ![4, 32, 128, 8, 64]⟩
abbrev S4x32x384x8x64 : Shape := ⟨5, ![4, 32, 384, 8, 64]⟩
abbrev S4x32x8x384x128x4 : Shape := ⟨6, ![4, 32, 8, 384, 128, 4]⟩
abbrev S4x32x8x4x128x384 : Shape := ⟨6, ![4, 32, 8, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S8x4 : Shape := ⟨2, ![8, 4]⟩
abbrev S1x1x8x4x1x1 : Shape := ⟨6, ![1, 1, 8, 4, 1, 1]⟩
abbrev S4x32x8x4x128 : Shape := ⟨5, ![4, 32, 8, 4, 128]⟩
abbrev S4x32x8x4x128x1 : Shape := ⟨6, ![4, 32, 8, 4, 128, 1]⟩
abbrev S4x32x8x64x4x128 : Shape := ⟨6, ![4, 32, 8, 64, 4, 128]⟩

abbrev nBuf : Space → Nat
  | .hbm => 169
  | .vmem => 0
  | .smem => 0
  | _ => 0

abbrev hbmTy0_0 (i : Nat) : BufTy := match i % 128 with
  | 0 => ⟨S4x4096x3072, .bf16⟩
  | 1 => ⟨S32, .f32⟩
  | 2 => ⟨S4x4096x3072, .f32⟩
  | 3 => ⟨S4x4096x2048, .f32⟩
  | 4 => ⟨S4x4096x32x64, .f32⟩
  | 5 => ⟨S4x4096x512, .f32⟩
  | 6 => ⟨S4x4096x8x64, .f32⟩
  | 7 => ⟨S4x4096x512, .f32⟩
  | 8 => ⟨S4x4096x8x64, .f32⟩
  | 9 => ⟨S4096, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S4096x1, .f32⟩
  | 25 => ⟨S1x32, .f32⟩
  | 26 => ⟨S4096x32, .f32⟩
  | 27 => ⟨S4096x32, .f32⟩
  | 28 => ⟨S4096x32, .f32⟩
  | 29 => ⟨S4096x32, .f32⟩
  | 30 => ⟨S1x4096x1x32, .f32⟩
  | 31 => ⟨S4096x32, .f32⟩
  | 32 => ⟨S1x4096x1x32, .f32⟩
  | 33 => ⟨S4x4096x32x32, .f32⟩
  | 34 => ⟨S4x4096x32x32, .f32⟩
  | 35 => ⟨S4x4096x32x32, .f32⟩
  | 36 => ⟨S4x4096x32x32, .f32⟩
  | 37 => ⟨S4x4096x32x32, .f32⟩
  | 38 => ⟨S4x4096x32x32, .f32⟩
  | 39 => ⟨S4x4096x32x32, .f32⟩
  | 40 => ⟨S4x4096x32x32, .f32⟩
  | 41 => ⟨S4x4096x32x32, .f32⟩
  | 42 => ⟨S4x4096x32x32, .f32⟩
  | 43 => ⟨S4x4096x32x32, .f32⟩
  | 44 => ⟨S4x4096x32x32, .f32⟩
  | 45 => ⟨S4x4096x32x64, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S4096x1, .f32⟩
  | 61 => ⟨S1x32, .f32⟩
  | 62 => ⟨S4096x32, .f32⟩
  | 63 => ⟨S4096x32, .f32⟩
  | 64 => ⟨S4096x32, .f32⟩
  | 65 => ⟨S4096x32, .f32⟩
  | 66 => ⟨S1x4096x1x32, .f32⟩
  | 67 => ⟨S4096x32, .f32⟩
  | 68 => ⟨S1x4096x1x32, .f32⟩
  | 69 => ⟨S4x4096x8x32, .f32⟩
  | 70 => ⟨S4x4096x8x32, .f32⟩
  | 71 => ⟨S4x4096x8x32, .f32⟩
  | 72 => ⟨S4x4096x8x32, .f32⟩
  | 73 => ⟨S4x4096x8x32, .f32⟩
  | 74 => ⟨S4x4096x8x32, .f32⟩
  | 75 => ⟨S4x4096x8x32, .f32⟩
  | 76 => ⟨S4x4096x8x32, .f32⟩
  | 77 => ⟨S4x4096x8x32, .f32⟩
  | 78 => ⟨S4x4096x8x32, .f32⟩
  | 79 => ⟨S4x4096x8x32, .f32⟩
  | 80 => ⟨S4x4096x8x32, .f32⟩
  | 81 => ⟨S4x4096x8x64, .f32⟩
  | 82 => ⟨S4x32x128x8x4x64, .f32⟩
  | 83 => ⟨S_, .f32⟩
  | 84 => ⟨S4x4352x8x64, .f32⟩
  | 85 => ⟨S4x34x128x8x64, .f32⟩
  | 86 => ⟨S4x32x128x8x64, .f32⟩
  | 87 => ⟨S4x32x128x8x64, .f32⟩
  | 88 => ⟨S4x32x128x8x64, .f32⟩
  | 89 => ⟨S4x32x384x8x64, .f32⟩
  | 90 => ⟨S_, .f32⟩
  | 91 => ⟨S4x4352x8x64, .f32⟩
  | 92 => ⟨S4x34x128x8x64, .f32⟩
  | 93 => ⟨S4x32x128x8x64, .f32⟩
  | 94 => ⟨S4x32x128x8x64, .f32⟩
  | 95 => ⟨S4x32x128x8x64, .f32⟩
  | 96 => ⟨S4x32x384x8x64, .f32⟩
  | 97 => ⟨S4x32x8x384x128x4, .f32⟩
  | 98 => ⟨S4x32x8x4x128x384, .f32⟩
  | 99 => ⟨S_, .f32⟩
  | 100 => ⟨S4x32x8x4x128x384, .f32⟩
  | 101 => ⟨S4x32x8x4x128x384, .f32⟩
  | 102 => ⟨S128, .i32⟩
  | 103 => ⟨S128x1, .i32⟩
  | 104 => ⟨S384, .i32⟩
  | 105 => ⟨S1x384, .i32⟩
  | 106 => ⟨S_, .i32⟩
  | 107 => ⟨S1x384, .i32⟩
  | 108 => ⟨S1x384, .i32⟩
  | 109 => ⟨S128x384, .i32⟩
  | 110 => ⟨S128x384, .i32⟩
  | 111 => ⟨S128x384, .i32⟩
  | 112 => ⟨S128x384, .i32⟩
  | 113 => ⟨S_, .i32⟩
  | 114 => ⟨S128x384, .i32⟩
  | 115 => ⟨S128x384, .i1⟩
  | 116 => ⟨S32, .i32⟩
  | 117 => ⟨S32x1, .i32⟩
  | 118 => ⟨S_, .i32⟩
  | 119 => ⟨S32x1, .i32⟩
  | 120 => ⟨S32x1, .i32⟩
  | 121 => ⟨S_, .i32⟩
  | 122 => ⟨S32x1, .i32⟩
  | 123 => ⟨S32x1, .i32⟩
  | 124 => ⟨S384, .i32⟩
  | 125 => ⟨S1x384, .i32⟩
  | 126 => ⟨S32x384, .i32⟩
  | 127 => ⟨S32x384, .i32⟩
  | _ => ⟨S4x4096x3072, .bf16⟩

abbrev hbmTy0_1 (i : Nat) : BufTy := match i % 128 with
  | 0 => ⟨S32x384, .i32⟩
  | 1 => ⟨S_, .i32⟩
  | 2 => ⟨S32x384, .i32⟩
  | 3 => ⟨S32x384, .i1⟩
  | 4 => ⟨S_, .i32⟩
  | 5 => ⟨S32x384, .i32⟩
  | 6 => ⟨S32x384, .i1⟩
  | 7 => ⟨S32x384, .i1⟩
  | 8 => ⟨S1x128x384, .i1⟩
  | 9 => ⟨S32x1x384, .i1⟩
  | 10 => ⟨S32x128x384, .i1⟩
  | 11 => ⟨S32x128x384, .i1⟩
  | 12 => ⟨S32x128x384, .i1⟩
  | 13 => ⟨S1x32x1x1x128x384, .i1⟩
  | 14 => ⟨S4x32x8x4x128x384, .i1⟩
  | 15 => ⟨S_, .f32⟩
  | 16 => ⟨S4x32x8x4x128x384, .f32⟩
  | 17 => ⟨S4x32x8x4x128x384, .f32⟩
  | 18 => ⟨S8x4, .f32⟩
  | 19 => ⟨S1x1x8x4x1x1, .f32⟩
  | 20 => ⟨S_, .f32⟩
  | 21 => ⟨S4x32x8x4x128, .f32⟩
  | 22 => ⟨S4x32x8x4x128x1, .f32⟩
  | 23 => ⟨S4x32x8x4x128x1, .f32⟩
  | 24 => ⟨S4x32x8x4x128x1, .f32⟩
  | 25 => ⟨S4x32x8x4x128x384, .f32⟩
  | 26 => ⟨S4x32x8x4x128x384, .f32⟩
  | 27 => ⟨S4x32x8x4x128x384, .f32⟩
  | 28 => ⟨S_, .f32⟩
  | 29 => ⟨S4x32x8x4x128, .f32⟩
  | 30 => ⟨S4x32x8x4x128x1, .f32⟩
  | 31 => ⟨S4x32x8x4x128x1, .f32⟩
  | 32 => ⟨S4x32x8x4x128x1, .f32⟩
  | 33 => ⟨S4x32x8x4x128x1, .f32⟩
  | 34 => ⟨S4x32x8x4x128x1, .f32⟩
  | 35 => ⟨S4x32x8x4x128x384, .f32⟩
  | 36 => ⟨S4x32x8x4x128x384, .f32⟩
  | 37 => ⟨S4x32x8x64x4x128, .f32⟩
  | 38 => ⟨S4x32x128x8x4x64, .f32⟩
  | 39 => ⟨S4x4096x2048, .f32⟩
  | 40 => ⟨S4x4096x2048, .bf16⟩
  | _ => ⟨S4x4096x3072, .bf16⟩

abbrev hbmTy (i : Nat) : BufTy := match i / 128 with
  | 0 => hbmTy0_0 i
  | 1 => hbmTy0_1 i
  | _ => ⟨S4x4096x3072, .bf16⟩

abbrev bufTy : (tb : Table) → Fin (tcTables nBuf tb) → BufTy
  | .hbm, ⟨i, _⟩ => hbmTy i
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_3 : Ref sig .tc := ⟨.hbm, 47, rfl⟩
abbrev main_v41 : Ref sig .tc := ⟨.hbm, 48, rfl⟩
abbrev main_v42 : Ref sig .tc := ⟨.hbm, 49, rfl⟩
abbrev main_cst_4 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_cst_7 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_8 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_cst_9 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_c : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_c_10 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_c_11 : Ref sig .tc := ⟨.hbm, 118, rfl⟩
abbrev main_v103 : Ref sig .tc := ⟨.hbm, 119, rfl⟩
abbrev main_v104 : Ref sig .tc := ⟨.hbm, 120, rfl⟩
abbrev main_c_12 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_c_13 : Ref sig .tc := ⟨.hbm, 129, rfl⟩
abbrev main_v112 : Ref sig .tc := ⟨.hbm, 130, rfl⟩
abbrev main_v113 : Ref sig .tc := ⟨.hbm, 131, rfl⟩
abbrev main_c_14 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_cst_15 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_cst_16 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_cst_17 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩

abbrev nD : Nat := 1
abbrev τ : Topo := Topo.v7x

variable {F : FTy → Type} [FloatOps F]
-- ==== Kernel2.lean ====
abbrev S16384x2048 : Shape := ⟨2, ![16384, 2048]⟩
abbrev S1x2048x3072 : Shape := ⟨3, ![1, 2048, 3072]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x3072, .f32⟩
  | .hbm, ⟨2, _⟩ => ⟨S2048x3072, .f32⟩
  | .hbm, ⟨3, _⟩ => ⟨S2048x3072, .bf16⟩
  | .hbm, ⟨4, _⟩ => ⟨S16384x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x2048 : Shape := ⟨2, ![16384, 2048]⟩
abbrev S1x2048x3072 : Shape := ⟨3, ![1, 2048, 3072]⟩
abbrev S2048x3072 : Shape := ⟨2, ![2048, 3072]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x3072, .f32⟩
  | .hbm, ⟨2, _⟩ => ⟨S16384x2048, .f32⟩
  | .hbm, ⟨3, _⟩ => ⟨S2048x3072, .f32⟩
  | .hbm, ⟨4, _⟩ => ⟨S16384x3072, .f32⟩
  | .hbm, ⟨5, _⟩ => ⟨S16384x3072, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S16384x2048 : Shape := ⟨2, ![16384, 2048]⟩
abbrev S1x2048x2048 : Shape := ⟨3, ![1, 2048, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4x2x64x131072 : Shape := ⟨4, ![4, 2, 64, 131072]⟩
abbrev S1x2048x2048 : Shape := ⟨3, ![1, 2048, 2048]⟩
abbrev S4x4096x2048 : Shape := ⟨3, ![4, 4096, 2048]⟩
abbrev S64x128 : Shape := ⟨2, ![64, 128]⟩
abbrev S4x64x64x2048 : Shape := ⟨4, ![4, 64, 64, 2048]⟩
abbrev S2048x2048 : Shape := ⟨2, ![2048, 2048]⟩
abbrev S4x2x64x64x2048 : Shape := ⟨5, ![4, 2, 64, 64, 2048]⟩
abbrev S1x2x8x64x2048 : Shape := ⟨5, ![1, 2, 8, 64, 2048]⟩
abbrev S1x64x8x2048 : Shape := ⟨4, ![1, 64, 8, 2048]⟩
abbrev S512x2048 : Shape := ⟨2, ![512, 2048]⟩
abbrev S1x1x1x64x2048 : Shape := ⟨5, ![1, 1, 1, 64, 2048]⟩
abbrev S64x2048 : Shape := ⟨2, ![64, 2048]⟩
abbrev S128x2048 : Shape := ⟨2, ![128, 2048]⟩
abbrev S1x64x1x2048 : Shape := ⟨4, ![1, 64, 1, 2048]⟩

abbrev nBuf : Space → Nat
  | .hbm => 9
  | .vmem => 9
  | .smem => 0
  | _ => 0

abbrev bufTy : (tb : Table) → Fin (tcTables nBuf tb) → BufTy
  | .hbm, ⟨0, _⟩ => ⟨S4x2x64x131072, .bf16⟩
  | .hbm, ⟨1, _⟩ => ⟨S1x2048x2048, .f32⟩
  | .hbm, ⟨2, _⟩ => ⟨S4x4096x2048, .f32⟩
  | .hbm, ⟨3, _⟩ => ⟨S64x128, .bf16⟩
  | .hbm, ⟨4, _⟩ => ⟨S4x64x64x2048, .f32⟩
  | .hbm, ⟨5, _⟩ => ⟨S2048x2048, .f32⟩
  | .hbm, ⟨6, _⟩ => ⟨S2048x2048, .bf16⟩
  | .hbm, ⟨7, _⟩ => ⟨S4x2x64x64x2048, .bf16⟩
  | .hbm, ⟨8, _⟩ => ⟨S4x64x64x2048, .f32⟩
  | .local _ .vmem, ⟨0, _⟩ => ⟨S64x128, .bf16⟩
  | .local _ .vmem, ⟨1, _⟩ => ⟨S2048x2048, .bf16⟩
  | .local _ .vmem, ⟨2, _⟩ => ⟨S1x2x8x64x2048, .bf16⟩
  | .local _ .vmem, ⟨3, _⟩ => ⟨S1x2x8x64x2048, .bf16⟩
  | .local _ .vmem, ⟨4, _⟩ => ⟨S1x64x8x2048, .f32⟩
  | .local _ .vmem, ⟨5, _⟩ => ⟨S1x64x8x2048, .f32⟩
  | .local _ .vmem, ⟨6, _⟩ => ⟨S1x64x8x2048, .f32⟩
  | .local _ .vmem, ⟨7, _⟩ => ⟨S1x64x8x2048, .f32⟩
  | .local _ .vmem, ⟨8, _⟩ => ⟨S512x2048, .bf16⟩
  | _, _ => ⟨S4x2x64x131072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S64x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x2x64x131072 : Shape := ⟨4, ![4, 2, 64, 131072]⟩
abbrev S1x2048x2048 : Shape := ⟨3, ![1, 2048, 2048]⟩
abbrev S4x4096x2048 : Shape := ⟨3, ![4, 4096, 2048]⟩
abbrev S64x128 : Shape := ⟨2, ![64, 128]⟩
abbrev S4x2x64x64x2048 : Shape := ⟨5, ![4, 2, 64, 64, 2048]⟩
abbrev S4x1x64x64x2048 : Shape := ⟨5, ![4, 1, 64, 64, 2048]⟩
abbrev S4x64x64x2048 : Shape := ⟨4, ![4, 64, 64, 2048]⟩
abbrev S4x64x128x2048 : Shape := ⟨4, ![4, 64, 128, 2048]⟩
abbrev S4x64x2048x64 : Shape := ⟨4, ![4, 64, 2048, 64]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x2x64x131072, .bf16⟩
  | .hbm, ⟨1, _⟩ => ⟨S1x2048x2048, .f32⟩
  | .hbm, ⟨2, _⟩ => ⟨S4x4096x2048, .f32⟩
  | .hbm, ⟨3, _⟩ => ⟨S64x128, .bf16⟩
  | .hbm, ⟨4, _⟩ => ⟨S64x128, .f32⟩
  | .hbm, ⟨5, _⟩ => ⟨S4x2x64x131072, .f32⟩
  | .hbm, ⟨6, _⟩ => ⟨S4x2x64x64x2048, .f32⟩
  | .hbm, ⟨7, _⟩ => ⟨S4x1x64x64x2048, .f32⟩
  | .hbm, ⟨8, _⟩ => ⟨S4x64x64x2048, .f32⟩
  | .hbm, ⟨9, _⟩ => ⟨S4x1x64x64x2048, .f32⟩
  | .hbm, ⟨10, _⟩ => ⟨S4x64x64x2048, .f32⟩
  | .hbm, ⟨11, _⟩ => ⟨S4x64x128x2048, .f32⟩
  | .hbm, ⟨12, _⟩ => ⟨S4x64x2048x64, .f32⟩
  | .hbm, ⟨13, _⟩ => ⟨S4x64x64x2048, .f32⟩
  | .hbm, ⟨14, _⟩ => ⟨S4x64x64x2048, .f32⟩
  | .hbm, ⟨15, _⟩ => ⟨S2048x2048, .f32⟩
  | .hbm, ⟨16, _⟩ => ⟨S4x64x64x2048, .f32⟩
  | .hbm, ⟨17, _⟩ => ⟨S4x64x64x2048, .f32⟩
  | _, _ => ⟨S4x2x64x131072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S4x4096x2048 : Shape := ⟨3, ![4, 4096, 2048]⟩
abbrev S256x512 : Shape := ⟨2, ![256, 512]⟩
abbrev S64x64x64 : Shape := ⟨3, ![64, 64, 64]⟩
abbrev S_ : Shape := ⟨0, ![]⟩
abbrev S64x64x128 : Shape := ⟨3, ![64, 64, 128]⟩
abbrev S64x128x128 : Shape := ⟨3, ![64, 128, 128]⟩
abbrev S4x64x131072 : Shape := ⟨3, ![4, 64, 131072]⟩
abbrev S4x2x64x131072 : Shape := ⟨4, ![4, 2, 64, 131072]⟩
abbrev S8x128x128 : Shape := ⟨3, ![8, 128, 128]⟩
abbrev S1x64x16384 : Shape := ⟨3, ![1, 64, 16384]⟩
abbrev S1x2x64x16384 : Shape := ⟨4, ![1, 2, 64, 16384]⟩
abbrev S512x2048 : Shape := ⟨2, ![512, 2048]⟩
abbrev S1x64x2048 : Shape := ⟨3, ![1, 64, 2048]⟩
abbrev S64x2048 : Shape := ⟨2, ![64, 2048]⟩
abbrev S512x256 : Shape := ⟨2, ![512, 256]⟩
abbrev S512x512 : Shape := ⟨2, ![512, 512]⟩
abbrev S128x2048 : Shape := ⟨2, ![128, 2048]⟩
abbrev S1x128x128 : Shape := ⟨3, ![1, 128, 128]⟩
abbrev S128x128 : Shape := ⟨2, ![128, 128]⟩
abbrev S2x64x2048 : Shape := ⟨3, ![2, 64, 2048]⟩
abbrev S1x2x64x2048 : Shape := ⟨4, ![1, 2, 64, 2048]⟩

abbrev nBuf : Space → Nat
  | .hbm => 31
  | .vmem => 9
  | .smem => 0
  | _ => 0

abbrev bufTy : (tb : Table) → Fin (tcTables nBuf tb) → BufTy
  | .hbm, ⟨0, _⟩ => ⟨S4x4096x2048, .bf16⟩
  | .hbm, ⟨1, _⟩ => ⟨S256x512, .bf16⟩
  | .hbm, ⟨2, _⟩ => ⟨S64x64x64, .i32⟩
  | .hbm, ⟨3, _⟩ => ⟨S64x64x64, .i32⟩
  | .hbm, ⟨4, _⟩ => ⟨S64x64x64, .i32⟩
  | .hbm, ⟨5, _⟩ => ⟨S_, .i32⟩
  | .hbm, ⟨6, _⟩ => ⟨S64x64x64, .i32⟩
  | .hbm, ⟨7, _⟩ => ⟨S64x64x64, .i32⟩
  | .hbm, ⟨8, _⟩ => ⟨S64x64x64, .i32⟩
  | .hbm, ⟨9, _⟩ => ⟨S64x64x64, .i32⟩
  | .hbm, ⟨10, _⟩ => ⟨S_, .i32⟩
  | .hbm, ⟨11, _⟩ => ⟨S64x64x64, .i32⟩
  | .hbm, ⟨12, _⟩ => ⟨S64x64x64, .i32⟩
  | .hbm, ⟨13, _⟩ => ⟨S64x64x64, .f32⟩
  | .hbm, ⟨14, _⟩ => ⟨S_, .f32⟩
  | .hbm, ⟨15, _⟩ => ⟨S64x64x64, .f32⟩
  | .hbm, ⟨16, _⟩ => ⟨S64x64x64, .f32⟩
  | .hbm, ⟨17, _⟩ => ⟨S_, .f32⟩
  | .hbm, ⟨18, _⟩ => ⟨S64x64x64, .f32⟩
  | .hbm, ⟨19, _⟩ => ⟨S64x64x64, .f32⟩
  | .hbm, ⟨20, _⟩ => ⟨S64x64x64, .f32⟩
  | .hbm, ⟨21, _⟩ => ⟨S64x64x64, .f32⟩
  | .hbm, ⟨22, _⟩ => ⟨S64x64x64, .f32⟩
  | .hbm, ⟨23, _⟩ => ⟨S64x64x128, .f32⟩
  | .hbm, ⟨24, _⟩ => ⟨S64x64x64, .f32⟩
  | .hbm, ⟨25, _⟩ => ⟨S64x64x64, .f32⟩
  | .hbm, ⟨26, _⟩ => ⟨S64x64x128, .f32⟩
  | .hbm, ⟨27, _⟩ => ⟨S64x128x128, .f32⟩
  | .hbm, ⟨28, _⟩ => ⟨S64x128x128, .bf16⟩
  | .hbm, ⟨29, _⟩ => ⟨S4x64x131072, .bf16⟩
  | .hbm, ⟨30, _⟩ => ⟨S4x2x64x131072, .bf16⟩
  | .local _ .vmem, ⟨0, _⟩ => ⟨S256x512, .bf16⟩
  | .local _ .vmem, ⟨1, _⟩ => ⟨S8x128x128, .bf16⟩
  | .local _ .vmem, ⟨2, _⟩ => ⟨S8x128x128, .bf16⟩
  | .local _ .vmem, ⟨3, _⟩ => ⟨S1x64x16384, .bf16⟩
  | .local _ .vmem, ⟨4, _⟩ => ⟨S1x64x16384, .bf16⟩
  | .local _ .vmem, ⟨5, _⟩ => ⟨S1x2x64x16384, .bf16⟩
  | .local _ .vmem, ⟨6, _⟩ => ⟨S1x2x64x16384, .bf16⟩
  | .local _ .vmem, ⟨7, _⟩ => ⟨S512x2048, .bf16⟩
  | .local _ .vmem, ⟨8, _⟩ => ⟨S512x2048, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x64x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x4096x2048 : Shape := ⟨3, ![4, 4096, 2048]⟩
abbrev S256x512 : Shape := ⟨2, ![256, 512]⟩
abbrev S4x64x64x8x256 : Shape := ⟨5, ![4, 64, 64, 8, 256]⟩
abbrev S4x64x64x8x512 : Shape := ⟨5, ![4, 64, 64, 8, 512]⟩
abbrev S4x64x64x2048 : Shape := ⟨4, ![4, 64, 64, 2048]⟩
abbrev S64x64x64 : Shape := ⟨3, ![64, 64, 64]⟩
abbrev S_ : Shape := ⟨0, ![]⟩
abbrev S64x4x2048x64 : Shape := ⟨4, ![64, 4, 2048, 64]⟩
abbrev S4x1x64x64x2048 : Shape := ⟨5, ![4, 1, 64, 64, 2048]⟩
abbrev S4x2x64x64x2048 : Shape := ⟨5, ![4, 2, 64, 64, 2048]⟩
abbrev S4x2x64x131072 : Shape := ⟨4, ![4, 2, 64, 131072]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S256x512, .bf16⟩
  | .hbm, ⟨2, _⟩ => ⟨S4x4096x2048, .f32⟩
  | .hbm, ⟨3, _⟩ => ⟨S4x64x64x8x256, .f32⟩
  | .hbm, ⟨4, _⟩ => ⟨S256x512, .f32⟩
  | .hbm, ⟨5, _⟩ => ⟨S4x64x64x8x512, .f32⟩
  | .hbm, ⟨6, _⟩ => ⟨S4x64x64x8x256, .f32⟩
  | .hbm, ⟨7, _⟩ => ⟨S4x64x64x2048, .f32⟩
  | .hbm, ⟨8, _⟩ => ⟨S4x64x64x8x256, .f32⟩
  | .hbm, ⟨9, _⟩ => ⟨S4x64x64x2048, .f32⟩
  | .hbm, ⟨10, _⟩ => ⟨S64x64x64, .i32⟩
  | .hbm, ⟨11, _⟩ => ⟨S64x64x64, .i32⟩
  | .hbm, ⟨12, _⟩ => ⟨S64x64x64, .i32⟩
  | .hbm, ⟨13, _⟩ => ⟨S_, .i32⟩
  | .hbm, ⟨14, _⟩ => ⟨S64x64x64, .i32⟩
  | .hbm, ⟨15, _⟩ => ⟨S64x64x64, .i32⟩
  | .hbm, ⟨16, _⟩ => ⟨S64x64x64, .i32⟩
  | .hbm, ⟨17, _⟩ => ⟨S64x64x64, .i32⟩
  | .hbm, ⟨18, _⟩ => ⟨S_, .i32⟩
  | .hbm, ⟨19, _⟩ => ⟨S64x64x64, .i32⟩
  | .hbm, ⟨20, _⟩ => ⟨S64x64x64, .i32⟩
  | .hbm, ⟨21, _⟩ => ⟨S64x64x64, .f32⟩
  | .hbm, ⟨22, _⟩ => ⟨S_, .f32⟩
  | .hbm, ⟨23, _⟩ => ⟨S64x64x64, .f32⟩
  | .hbm, ⟨24, _⟩ => ⟨S64x64x64, .f32⟩
  | .hbm, ⟨25, _⟩ => ⟨S_, .f32⟩
  | .hbm, ⟨26, _⟩ => ⟨S64x64x64, .f32⟩
  | .hbm, ⟨27, _⟩ => ⟨S64x64x64, .f32⟩
  | .hbm, ⟨28, _⟩ => ⟨S64x64x64, .f32⟩
  | .hbm, ⟨29, _⟩ => ⟨S64x64x64, .f32⟩
  | .hbm, ⟨30, _⟩ => ⟨S64x4x2048x64, .f32⟩
  | .hbm, ⟨31, _⟩ => ⟨S4x64x64x2048, .f32⟩
  | .hbm, ⟨32, _⟩ => ⟨S64x64x64, .f32⟩
  | .hbm, ⟨33, _⟩ => ⟨S64x4x2048x64, .f32⟩
  | .hbm, ⟨34, _⟩ => ⟨S4x64x64x2048, .f32⟩
  | .hbm, ⟨35, _⟩ => ⟨S4x64x64x2048, .f32⟩
  | .hbm, ⟨36, _⟩ => ⟨S64x64x64, .f32⟩
  | .hbm, ⟨37, _⟩ => ⟨S64x4x2048x64, .f32⟩
  | .hbm, ⟨38, _⟩ => ⟨S4x64x64x2048, .f32⟩
  | .hbm, ⟨39, _⟩ => ⟨S64x64x64, .f32⟩
  | .hbm, ⟨40, _⟩ => ⟨S64x4x2048x64, .f32⟩
  | .hbm, ⟨41, _⟩ => ⟨S4x64x64x2048, .f32⟩
  | .hbm, ⟨42, _⟩ => ⟨S4x64x64x2048, .f32⟩
  | .hbm, ⟨43, _⟩ => ⟨S4x1x64x64x2048, .f32⟩
  | .hbm, ⟨44, _⟩ => ⟨S4x1x64x64x2048, .f32⟩
  | .hbm, ⟨45, _⟩ => ⟨S4x2x64x64x2048, .f32⟩
  | .hbm, ⟨46, _⟩ => ⟨S4x2x64x131072, .f32⟩
  | .hbm, ⟨47, _⟩ => ⟨S4x2x64x131072, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== Proof.Attn.Head.lean ====
module

public import proofs.«01_k».proof.Proof.Gen.KernelIdeal.Value
public import Idealize.ShloMosaic.Lib.Writes
public import Idealize.ShloMosaic.Lib.Pointwise

@[expose] public section

set_option maxRecDepth 16384

/-! # One head of the attention, as the body spells it

The body runs the same operations once per query head. `headVal` states them once, `headAt h` names
them at head `h`'s loads, and `out_eq_heads` says that the output block the body leaves holds head
`h` at its columns `64h … 64h+63`. -/

namespace Cert.KernelIdeal.Gen

open Idealize.ShloMosaic Idealize.SL.Sem
open Cert.KernelIdeal

noncomputable section

variable {F : FTy → Type} [FloatOps F] [Named F]

/-- A block of 128 rows and two heads' lanes, rotated: `x·cos` plus the lanes 32 away times `sin`. -/
def rotated (cos sin : FVec F S128x128 .f32) (x : Vec F S1x128x128 .bf16) : FVec F S128x128 .f32 :=
  have y : FVec F S128x128 .f32 := extf .f32 (shapeCast S128x128 x shapeCasts_S1x128x128_S128x128) bitsLt_bf16_f32
  addf (mulf y cos) (mulf (select k0_pay1 (dynamicRotate 1 96#32 none y rotates_S128x128_d1)
    (dynamicRotate 1 32#32 none y rotates_S128x128_d1)) sin)

/-- The three key blocks of a window, rotated and stacked. -/
def keySlab (cq sq cp sp cn sn : FVec F S128x128 .f32) (kp kc kn : Vec F S1x128x128 .bf16) : FVec F S384x128 .bf16 :=
  truncf .bf16 (concatenate S384x128 0 [⟨S128x128, rotated cp sp kp⟩, ⟨S128x128, rotated cq sq kc⟩,
    ⟨S128x128, rotated cn sn kn⟩] concatenates_S128x128_S128x128_S128x128_S384x128_d0) bitsLt_bf16_f32

/-- The three value blocks of a window, stacked. -/
def valSlab (vp vc vn : Vec F S1x128x128 .bf16) : FVec F S384x128 .bf16 :=
  concatenate S384x128 0 [⟨S128x128, shapeCast S128x128 vp shapeCasts_S1x128x128_S128x128⟩,
    ⟨S128x128, shapeCast S128x128 vc shapeCasts_S1x128x128_S128x128⟩,
    ⟨S128x128, shapeCast S128x128 vn shapeCasts_S1x128x128_S128x128⟩] concatenates_S128x128_S128x128_S128x128_S384x128_d0

/-- The query block of two heads, rotated and scaled by an eighth. -/
def querySlab (cq sq : FVec F S128x128 .f32) (q : Vec F S1x128x128 .bf16) : FVec F S128x128 .bf16 :=
  truncf .bf16 (mulf (rotated cq sq q) (broadcast S128x128 (Scalar.ofBits .f32 0x3E000000#32))) bitsLt_bf16_f32

/-- The keys a query sees: within 128 positions of it, and inside the sequence. -/
def seen (i : grid0.Coords) : IVec S128x384 1 :=
  k0_pay9 (iota .tc S128x384 32 [0] iota_S128x384_d0_w32) (iota .tc S128x384 32 [1] iota_S128x384_d1_w32) (k0_pay8 i)

/-- One head's scores against the three key blocks: the queries' lanes from `oq`, the keys' from `og`. -/
def scores (cq sq cp sp cn sn : FVec F S128x128 .f32) (kp kc kn q : Vec F S1x128x128 .bf16)
    (og : Nat) (hog : S384x128.Slices ![0, og] S384x64) (oq : Nat) (hoq : S128x128.Slices ![0, oq] S128x64) :
    FVec F S128x384 .f32 :=
  matmul dot_S128x64_S384x64_S128x384_1_1_0_0_n_n none (extractStridedSlice S128x64 ![0, oq] (querySlab cq sq q) hoq)
    (extractStridedSlice S384x64 ![0, og] (keySlab cq sq cp sp cn sn kp kc kn) hog) (constant S128x384 .f32 0x00000000#32)

/-- One head's output block. -/
def headVal (i : grid0.Coords) (cq sq cp sp cn sn : FVec F S128x128 .f32) (kp kc kn vp vc vn q : Vec F S1x128x128 .bf16)
    (sink : Elt F .f32) (og : Nat) (hog : S384x128.Slices ![0, og] S384x64) (oq : Nat)
    (hoq : S128x128.Slices ![0, oq] S128x64) : FVec F S1x128x64 .bf16 :=
  have s : FVec F S128x384 .f32 := scores cq sq cp sp cn sn kp kc kn q og hog oq hoq
  k0_pay37 (extractStridedSlice S384x64 ![0, og] (valSlab vp vc vn) hog) (k0_pay22 (seen i) s sink) (k0_pay23 (seen i) s sink)

theorem inbK (h : Fin 32) : ∀ a, (![0, 0, 128 * (h.val / 8)] : Fin 3 → Nat) a + S1x128x128.size a ≤ S1x128x512.size a := by
  revert h; decide
theorem inbQ (h : Fin 32) : ∀ a, (![0, 0, 128 * (h.val / 2)] : Fin 3 → Nat) a + S1x128x128.size a ≤ S1x128x2048.size a := by
  revert h; decide
theorem inbS (h : Fin 32) : ∀ a, (![h.val] : Fin 1 → Nat) a + S1.size a ≤ S32.size a := by
  revert h; decide
theorem inbO (h : Fin 32) : ∀ a, (![0, 0, 64 * h.val] : Fin 3 → Nat) a + S1x128x64.size a ≤ S1x128x2048.size a := by
  revert h; decide
theorem slK (h : Fin 32) : S384x128.Slices ![0, 64 * (h.val / 4 % 2)] S384x64 := by
  revert h; decide
theorem slQ (h : Fin 32) : S128x128.Slices ![0, 64 * (h.val % 2)] S128x64 := by
  revert h; decide

/-- Head `h`'s output block at the loads the body makes for it: key and value lanes from `128·(h/8)` of the
    blocks, the half `(h/4) % 2` of them; query lanes from `128·(h/2)`, the half `h % 2`; sink `h`. -/
def headAt (h : Fin 32) (i : grid0.Coords) (arg2 : Memref sig .tc .smem S32 .f32) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128x512 .bf16) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S32 .f32) (x1 : Vec F S1x128x2048 .bf16) (x2 : Vec F S1x128x512 .bf16) (x3 : Vec F S1x128x512 .bf16) (x4 : Vec F S1x128x512 .bf16) (x5 : Vec F S1x128x512 .bf16) (x6 : Vec F S1x128x512 .bf16) (x7 : Vec F S1x128x512 .bf16) (x8 : Vec F S128x128 .f32) (x9 : Vec F S128x128 .f32) (x10 : Vec F S128x128 .f32) (x11 : Vec F S128x128 .f32) (x12 : Vec F S128x128 .f32) (x13 : Vec F S128x128 .f32) : FVec F S1x128x64 .bf16 :=
  headVal i (k0_pay2 (View.readAt (Elt F) arg10.view (Rect.unit ![0, 0] S128x128.size inb_S128x128_S128x128_0_0).toLoadRect (harg10.unread x8))) (k0_pay2 (View.readAt (Elt F) arg11.view (Rect.unit ![0, 0] S128x128.size inb_S128x128_S128x128_0_0).toLoadRect (harg11.unread x9))) (k0_pay2 (View.readAt (Elt F) arg12.view (Rect.unit ![0, 0] S128x128.size inb_S128x128_S128x128_0_0).toLoadRect (harg12.unread x10))) (k0_pay2 (View.readAt (Elt F) arg13.view (Rect.unit ![0, 0] S128x128.size inb_S128x128_S128x128_0_0).toLoadRect (harg13.unread x11))) (k0_pay2 (View.readAt (Elt F) arg14.view (Rect.unit ![0, 0] S128x128.size inb_S128x128_S128x128_0_0).toLoadRect (harg14.unread x12))) (k0_pay2 (View.readAt (Elt F) arg15.view (Rect.unit ![0, 0] S128x128.size inb_S128x128_S128x128_0_0).toLoadRect (harg15.unread x13)))
    (View.readAt (Elt F) arg4.view (Rect.unit (s := S1x128x512) ![0, 0, 128 * (h.val / 8)] S1x128x128.size (inbK h)).toLoadRect (harg4.unread x2))
    (View.readAt (Elt F) arg5.view (Rect.unit (s := S1x128x512) ![0, 0, 128 * (h.val / 8)] S1x128x128.size (inbK h)).toLoadRect (harg5.unread x3))
    (View.readAt (Elt F) arg6.view (Rect.unit (s := S1x128x512) ![0, 0, 128 * (h.val / 8)] S1x128x128.size (inbK h)).toLoadRect (harg6.unread x4))
    (View.readAt (Elt F) arg7.view (Rect.unit (s := S1x128x512) ![0, 0, 128 * (h.val / 8)] S1x128x128.size (inbK h)).toLoadRect (harg7.unread x5))
    (View.readAt (Elt F) arg8.view (Rect.unit (s := S1x128x512) ![0, 0, 128 * (h.val / 8)] S1x128x128.size (inbK h)).toLoadRect (harg8.unread x6))
    (View.readAt (Elt F) arg9.view (Rect.unit (s := S1x128x512) ![0, 0, 128 * (h.val / 8)] S1x128x128.size (inbK h)).toLoadRect (harg9.unread x7))
    (View.readAt (Elt F) arg3.view (Rect.unit (s := S1x128x2048) ![0, 0, 128 * (h.val / 2)] S1x128x128.size (inbQ h)).toLoadRect (harg3.unread x1))
    (View.readAt (Elt F) arg2.view (Rect.unit (s := S32) ![h.val] S1.size (inbS h)).toLoadRect (harg2.unread x0) (Shape.Idx.first (show 0 < S1.numel by decide)))
    (64 * (h.val / 4 % 2)) (slK h) (64 * (h.val % 2)) (slQ h)

/-- The output block of point `i`: at column `64h + d`, head `h` at lane `d`. -/
def blockAt (i : grid0.Coords) (arg2 : Memref sig .tc .smem S32 .f32) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128x512 .bf16) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S32 .f32) (x1 : Vec F S1x128x2048 .bf16) (x2 : Vec F S1x128x512 .bf16) (x3 : Vec F S1x128x512 .bf16) (x4 : Vec F S1x128x512 .bf16) (x5 : Vec F S1x128x512 .bf16) (x6 : Vec F S1x128x512 .bf16) (x7 : Vec F S1x128x512 .bf16) (x8 : Vec F S128x128 .f32) (x9 : Vec F S128x128 .f32) (x10 : Vec F S128x128 .f32) (x11 : Vec F S128x128 .f32) (x12 : Vec F S128x128 .f32) (x13 : Vec F S128x128 .f32) : Vec F S1x128x2048 .bf16 := fun y =>
  headAt ⟨(y 2).val / 64, by have h : (y 2).val < 2048 := (y 2).isLt; omega⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13
    (ix3 0 (y 1) ⟨(y 2).val % 64, by omega⟩)

/-- Head `h` sits at columns `64h … 64h+63` of the block. -/
theorem headAt_eq_blockAt (h : Fin 32) (i : grid0.Coords) (arg2 : Memref sig .tc .smem S32 .f32) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128x512 .bf16) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec F S32 .f32) (x1 : Vec F S1x128x2048 .bf16) (x2 : Vec F S1x128x512 .bf16) (x3 : Vec F S1x128x512 .bf16) (x4 : Vec F S1x128x512 .bf16) (x5 : Vec F S1x128x512 .bf16) (x6 : Vec F S1x128x512 .bf16) (x7 : Vec F S1x128x512 .bf16) (x8 : Vec F S128x128 .f32) (x9 : Vec F S128x128 .f32) (x10 : Vec F S128x128 .f32) (x11 : Vec F S128x128 .f32) (x12 : Vec F S128x128 .f32) (x13 : Vec F S128x128 .f32) (x : S1x128x64.Idx) :
    headAt h i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x = blockAt i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 ((Rect.unit (s := S1x128x2048) ![0, 0, 64 * h.val] S1x128x64.size (inbO h)).emb x) := by
  have h0 : (x 0).val < 1 := (x 0).isLt
  have h2 : (x 2).val < 64 := (x 2).isLt
  have e2 : (((Rect.unit (s := S1x128x2048) ![0, 0, 64 * h.val] S1x128x64.size (inbO h)).emb x) 2).val = 64 * h.val + 1 * (x 2).val := rfl
  have e1 : (((Rect.unit (s := S1x128x2048) ![0, 0, 64 * h.val] S1x128x64.size (inbO h)).emb x) 1).val = 0 + 1 * (x 1).val := rfl
  unfold blockAt
  congr 1
  · apply Fin.ext; change h.val = _ / 64; rw [e2]; omega
  · funext a
    apply Fin.ext
    match a with
    | 0 => change (x 0).val = 0; omega
    | 1 => change (x 1).val = 0 + 1 * (x 1).val; omega
    | 2 => change (x 2).val = _ % 64; rw [e2]; omega

/-- What the body stores for each head is `headAt` at that head. -/
theorem pieces (c : Dev nD) (i : grid0.Coords) (arg2 : Memref sig .tc .smem S32 .f32) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128x512 .bf16) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S1x128x2048 .bf16) (harg16 : arg16.IsWhole)
    (x0 : Vec F S32 .f32) (x1 : Vec F S1x128x2048 .bf16) (x2 : Vec F S1x128x512 .bf16) (x3 : Vec F S1x128x512 .bf16) (x4 : Vec F S1x128x512 .bf16) (x5 : Vec F S1x128x512 .bf16) (x6 : Vec F S1x128x512 .bf16) (x7 : Vec F S1x128x512 .bf16) (x8 : Vec F S128x128 .f32) (x9 : Vec F S128x128 .f32) (x10 : Vec F S128x128 .f32) (x11 : Vec F S128x128 .f32) (x12 : Vec F S128x128 .f32) (x13 : Vec F S128x128 .f32) :
    ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13).1, ∀ x : p.1.shape.Idx, p.2 x = blockAt i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 (p.1.emb x) := by
  unfold kernelRun0_A
  dsimp only
  generalize hB : blockAt i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 = B
  refine List.forall_mem_cons.2 ⟨fun x => ?_, ?_⟩
  · dsimp only at x ⊢
    refine (congrFun (?_ : _ = headAt ⟨31, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨31, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨30, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨30, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨29, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨29, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨28, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨28, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨27, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨27, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨26, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨26, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨25, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨25, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨24, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨24, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨23, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨23, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨22, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨22, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨21, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨21, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨20, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨20, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨19, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨19, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨18, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨18, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨17, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨17, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨16, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨16, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨15, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨15, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨14, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨14, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨13, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨13, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨12, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨12, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨11, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨11, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨10, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨10, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨9, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨9, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨8, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨8, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨7, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨7, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨6, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨6, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨5, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨5, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨4, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨4, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨3, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨3, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨2, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨2, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨1, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨1, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  refine List.forall_mem_cons.2 ⟨fun x => ?_, ?_⟩
  · dsimp only at x ⊢
    refine (congrFun (?_ : _ = headAt ⟨0, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) x).trans ?_
    · rfl
    · rw [← hB]; exact headAt_eq_blockAt ⟨0, by decide⟩ i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x
  exact fun _ h => absurd h List.not_mem_nil

/-- The output block the body leaves holds the 32 heads side by side. -/
theorem out_eq_heads (c : Dev nD) (i : grid0.Coords) (arg2 : Memref sig .tc .smem S32 .f32) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128x512 .bf16) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S1x128x2048 .bf16) (harg16 : arg16.IsWhole)
    (x0 : Vec F S32 .f32) (x1 : Vec F S1x128x2048 .bf16) (x2 : Vec F S1x128x512 .bf16) (x3 : Vec F S1x128x512 .bf16) (x4 : Vec F S1x128x512 .bf16) (x5 : Vec F S1x128x512 .bf16) (x6 : Vec F S1x128x512 .bf16) (x7 : Vec F S1x128x512 .bf16) (x8 : Vec F S128x128 .f32) (x9 : Vec F S128x128 .f32) (x10 : Vec F S128x128 .f32) (x11 : Vec F S128x128 .f32) (x12 : Vec F S128x128 .f32) (x13 : Vec F S128x128 .f32)  :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 = blockAt i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 := by
  funext y
  exact View.read_writes_apply_of_pieces VO0_14 _ _ _ (pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 y)

end

end Cert.KernelIdeal.Gen
-- ==== Proof.Attn.Math.lean ====
/- The arithmetic of one attention row over the extended reals: a softmax with a sink logit whose division is done
   once, after the sum over the values, is the softmax whose division is done on every weight. -/
module

public import Idealize.ShloMosaic.PureOps.Ideal
public import Mathlib.Data.EReal.Operations
public import Mathlib.Data.EReal.Inv

@[expose] public section

noncomputable section

namespace Cert.Attn

open Idealize.ShloMosaic

/-- A nonnegative factor below `⊤` moves into a finite sum. -/
theorem mul_sum_of_nonneg {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- A factor of the queries is a factor of the scores. -/
theorem sum_scale {ι : Type} [Fintype ι] (c : EReal) (h0 : 0 ≤ c) (ht : c ≠ ⊤) (q k : ι → EReal) :
    ∑ i, (q i * c) * k i = (∑ i, q i * k i) * c := by
  rw [mul_comm, mul_sum_of_nonneg _ c h0 ht]
  refine Finset.sum_congr rfl fun i _ => ?_
  rw [mul_comm (q i) c, mul_assoc]

theorem exp_nonneg (x : EReal) : 0 ≤ Ideal.exp x := by
  induction x using EReal.rec with
  | bot => exact le_refl _
  | top => exact le_top
  | coe r => exact EReal.coe_nonneg.mpr (Real.exp_pos r).le

theorem exp_zero : Ideal.exp 0 = 1 := by
  change ((Real.exp 0 : ℝ) : EReal) = 1
  rw [Real.exp_zero]; rfl

/-- The running maximum of a row, from `⊥`, is `⊥` or an element of the row. -/
theorem fold_max_mem {ι : Type} (s : Finset ι) (f : ι → EReal) :
    s.fold max ⊥ f = ⊥ ∨ ∃ i ∈ s, s.fold max ⊥ f = f i := by
  classical
  induction s using Finset.induction_on with
  | empty => exact Or.inl (by simp)
  | insert a s ha ih =>
    rw [Finset.fold_insert ha]
    rcases le_total (f a) (s.fold max ⊥ f) with h | h
    · rw [max_eq_right h]
      rcases ih with h' | ⟨i, hi, h'⟩
      · exact Or.inl h'
      · exact Or.inr ⟨i, Finset.mem_insert_of_mem hi, h'⟩
    · rw [max_eq_left h]
      exact Or.inr ⟨a, Finset.mem_insert_self a s, rfl⟩

variable {ι : Type} [Fintype ι]

/-- The greatest logit of a row, the sink's among them. -/
def rowMax (s : ι → EReal) (sink : EReal) : EReal := max (Finset.univ.fold max ⊥ s) sink

/-- The sum of the exponentials of a row, the sink's among them. -/
def rowSum (s : ι → EReal) (sink : EReal) : EReal :=
  (∑ t, Ideal.exp (s t - rowMax s sink)) + Ideal.exp (sink - rowMax s sink)

/-- The row with ONE division, after the sum over the values. -/
def rowOnce (s : ι → EReal) (sink : EReal) (v : ι → EReal) : EReal :=
  Ideal.div (∑ t, Ideal.exp (s t - rowMax s sink) * v t) (rowSum s sink)

/-- The row with a division of every weight. -/
def rowEach (s : ι → EReal) (sink : EReal) (v : ι → EReal) : EReal :=
  ∑ t, Ideal.div (Ideal.exp (s t - rowMax s sink)) (rowSum s sink) * v t

/-- With no score at `⊤` and a finite sink, the greatest logit is finite. -/
theorem rowMax_finite (s : ι → EReal) (sink : EReal) (hs : ∀ t, s t ≠ ⊤) (h1 : sink ≠ ⊤) (h2 : sink ≠ ⊥) :
    rowMax s sink ≠ ⊤ ∧ rowMax s sink ≠ ⊥ := by
  constructor
  · unfold rowMax
    rcases le_total (Finset.univ.fold max ⊥ s) sink with h | h
    · rw [max_eq_right h]; exact h1
    · rw [max_eq_left h]
      rcases fold_max_mem Finset.univ s with h' | ⟨i, -, h'⟩
      · rw [h']; exact bot_ne_top
      · rw [h']; exact hs i
  · intro h
    have : sink ≤ rowMax s sink := le_max_right _ _
    rw [h] at this
    exact h2 (le_bot_iff.mp this)

/-- One of the exponentials of the row is `1`, so their sum is positive. -/
theorem rowSum_pos (s : ι → EReal) (sink : EReal) (hs : ∀ t, s t ≠ ⊤) (h1 : sink ≠ ⊤) (h2 : sink ≠ ⊥) :
    0 < rowSum s sink := by
  have hf := rowMax_finite s sink hs h1 h2
  have h01 : (0 : EReal) < 1 := by norm_num
  have hsum : 0 ≤ ∑ t, Ideal.exp (s t - rowMax s sink) := Finset.sum_nonneg fun t _ => exp_nonneg _
  have hself : rowMax s sink - rowMax s sink = 0 := EReal.sub_self hf.1 hf.2
  unfold rowSum
  rcases le_total (Finset.univ.fold max ⊥ s) sink with h | h
  · have hm : rowMax s sink = sink := max_eq_right h
    have : Ideal.exp (sink - rowMax s sink) = 1 := by rw [← exp_zero, ← hself]; rw [hm]
    rw [this]
    exact lt_of_lt_of_le h01 (le_add_of_nonneg_left hsum)
  · have hm : rowMax s sink = Finset.univ.fold max ⊥ s := max_eq_left h
    rcases fold_max_mem Finset.univ s with h' | ⟨i, -, h'⟩
    · exact absurd (hm.trans h') hf.2
    · have hi : Ideal.exp (s i - rowMax s sink) = 1 := by rw [← exp_zero, ← hself, hm, h']
      have : (1 : EReal) ≤ ∑ t, Ideal.exp (s t - rowMax s sink) := by
        rw [← hi]
        exact Finset.single_le_sum (fun t _ => exp_nonneg (s t - rowMax s sink)) (Finset.mem_univ i)
      exact lt_of_lt_of_le h01 (this.trans (le_add_of_nonneg_right (exp_nonneg _)))

/-- The two rows are equal, the values free where the score is `⊥`. -/
theorem rowOnce_eq_rowEach (s : ι → EReal) (sink : EReal) (v v' : ι → EReal) (hs : ∀ t, s t ≠ ⊤) (h1 : sink ≠ ⊤)
    (h2 : sink ≠ ⊥) (hv : ∀ t, s t = ⊥ ∨ v t = v' t) : rowOnce s sink v = rowEach s sink v' := by
  have hp := rowSum_pos s sink hs h1 h2
  have hi0 : 0 ≤ (rowSum s sink)⁻¹ := EReal.inv_nonneg_of_nonneg hp.le
  have hit : (rowSum s sink)⁻¹ ≠ ⊤ := by
    generalize rowSum s sink = x
    induction x using EReal.rec with
    | bot => rw [EReal.inv_bot]; exact EReal.zero_ne_top
    | top => rw [EReal.inv_top]; exact EReal.zero_ne_top
    | coe r => rw [← EReal.coe_inv]; exact EReal.coe_ne_top _
  unfold rowOnce rowEach
  unfold Ideal.div
  simp only [if_neg hp.ne']
  rw [mul_comm, mul_sum_of_nonneg _ _ hi0 hit]
  refine Finset.sum_congr rfl fun t _ => ?_
  rcases hv t with h | h
  · have : Ideal.exp (s t - rowMax s sink) = 0 := by
      rw [h, EReal.bot_sub]; rfl
    rw [this, zero_mul, mul_zero, zero_mul, zero_mul]
  · rw [h, ← mul_assoc, mul_comm (rowSum s sink)⁻¹]

end Cert.Attn

end
-- ==== Proof.Attn.Spec.lean ====
module

public import proofs.«01_k».proof.Proof.Attn.Math
public import Idealize.ShloMosaic.Lib.Pointwise

@[expose] public section

set_option maxRecDepth 16384

/-! # The attention, as one formula

What both programs compute, over the arrays they take: rotated queries against rotated keys, scaled by an eighth, the
keys further than 128 positions away or outside the sequence left out. -/

namespace Cert.Attn

open Idealize.ShloMosaic

noncomputable section

/-- Query row `q` of block `n` sees key row `t` of the window: at most 128 away, and inside the sequence. -/
def Sees (n : Nat) (q : Nat) (t : Nat) : Prop := (q ≤ t ∧ t ≤ q + 256) ∧ (128 ≤ 128 * n + t ∧ 128 * n + t < 4224)

instance (n q t : Nat) : Decidable (Sees n q t) := by unfold Sees; infer_instance

/-- The angle at position `s` and frequency `i`: `s · 10000^(−2i/64)`. -/
def angle (s i : Nat) : EReal :=
  FloatOps.sitofp (F := Ideal) FTy.f32 (BitVec.ofNat 32 s) *
    Ideal.pow (Ideal.ofBits FTy.f32 1176256512#32)
      (Ideal.div (-(Ideal.ofBits FTy.f32 1073741824#32 * FloatOps.sitofp (F := Ideal) FTy.f32 (BitVec.ofNat 32 i)))
        (Ideal.ofBits FTy.f32 1115684864#32))

/-- The cosine table: the frequencies repeat every 32 lanes. -/
def cosTab (s l : Nat) : EReal :=
  if l % 64 < 32 then Ideal.cos (angle s (l % 64)) else Ideal.cos (angle s (l % 64 - 32))

/-- The sine table, negated on the first half of each head's lanes. -/
def sinTab (s l : Nat) : EReal :=
  if l % 64 < 32 then -Ideal.sin (angle s (l % 64)) else Ideal.sin (angle s (l % 64 - 32))

/-- A head's 64 lanes rotated at position `s`. -/
def rope (x : Fin 64 → EReal) (s : Nat) (d : Fin 64) : EReal :=
  if h : d.val < 32 then x d * Ideal.cos (angle s d.val) - x ⟨d.val + 32, by omega⟩ * Ideal.sin (angle s d.val)
  else x d * Ideal.cos (angle s (d.val - 32)) + x ⟨d.val - 32, by omega⟩ * Ideal.sin (angle s (d.val - 32))

/-- The position of key row `t` of block `n`'s window, held inside the sequence. -/
def row (n t : Nat) : Fin 4096 := ⟨min (128 * n + t - 128) 4095, by omega⟩

/-- The lanes of head `g` of the columns from `o`, at position `s` of sequence `b`. -/
def head (A : (⟨3, ![4, 4096, 3072]⟩ : Shape).Idx → EReal) (b : Fin 4) (s : Fin 4096) (o g : Nat) (h : o + 64 * g + 64 ≤ 3072)
    (e : Fin 64) : EReal := A (ix3 b s ⟨o + 64 * g + e.val, by omega⟩)

theorem eighth_eq : Ideal.ofBits .f32 0x3E000000#32 = ((1 / 8 : ℝ) : EReal) := by
  simp [Ideal.ofBits, Ideal.ieee, -EReal.coe_mul]; norm_num

theorem eighth_nonneg : 0 ≤ Ideal.ofBits .f32 0x3E000000#32 := by
  rw [eighth_eq]; exact_mod_cast (by norm_num : (0 : ℝ) ≤ 1 / 8)

theorem eighth_ne_top : Ideal.ofBits .f32 0x3E000000#32 ≠ ⊤ := by
  rw [eighth_eq]; exact EReal.coe_ne_top _

/-- The score of query row `q` of block `n` against key row `t` of the block's window, for query head `h`. -/
def score (A : (⟨3, ![4, 4096, 3072]⟩ : Shape).Idx → EReal) (b : Fin 4) (n h : Fin 32) (q : Fin 128) (t : Fin 384) : EReal :=
  if Sees n.val q.val t.val then
    (∑ e, rope (head A b ⟨128 * n.val + q.val, by omega⟩ 0 h.val (by omega)) (128 * n.val + q.val) e
        * rope (head A b (row n.val t.val) 2048 (h.val / 4) (by omega)) (row n.val t.val).val e)
      * Ideal.ofBits .f32 0x3E000000#32
  else ⊥

end

end Cert.Attn
-- ==== Proof.Attn.Mask.lean ====
module

public import Idealize.ShloMosaic.PureOps

@[expose] public section

set_option maxRecDepth 16384

/-! # The masks, as bits

The words the masks are built from, evaluated on their ranges. -/

namespace Cert.Attn

open Idealize.ShloMosaic

/-- The band: key row `t` of the window is at most 128 away from query row `q`. -/
theorem near_dec : ∀ (q : Fin 128) (t : Fin 384), IntOp.cmpi CmpIPredicate.sle
    (IntOp.absi (IntOp.subi (IntOp.subi (BitVec.ofNat 32 t.val) 128#32) (BitVec.ofNat 32 q.val))) 128#32
      = if q.val ≤ t.val ∧ t.val ≤ q.val + 256 then 1#1 else 0#1 := by
  decide +kernel

/-- Key row `t` of block `n`'s window lies inside the sequence. -/
theorem inside_dec : ∀ (n : Fin 32) (t : Fin 384), IntOp.andi (IntOp.cmpi CmpIPredicate.sge
    (IntOp.addi (Scalar.subi (Scalar.muli (BitVec.ofNat 32 n.val) 128#32) 128#32) (BitVec.ofNat 32 t.val)) 0#32)
    (IntOp.cmpi CmpIPredicate.slt
    (IntOp.addi (Scalar.subi (Scalar.muli (BitVec.ofNat 32 n.val) 128#32) 128#32) (BitVec.ofNat 32 t.val)) 4096#32)
      = if 128 ≤ 128 * n.val + t.val ∧ 128 * n.val + t.val < 4224 then 1#1 else 0#1 := by
  decide +kernel

/-- The conjunction of two decided bits. -/
theorem andi_ite (p q : Prop) [Decidable p] [Decidable q] :
    IntOp.andi (if p then 1#1 else 0#1) (if q then 1#1 else 0#1) = if p ∧ q then 1#1 else 0#1 := by
  by_cases hp : p <;> by_cases hq : q <;> simp only [hp, hq, if_true, if_false, and_self, and_true, and_false] <;> decide

end Cert.Attn
-- ==== Proof.Attn.Lanes.lean ====
module

public import proofs.«01_k».proof.Proof.Attn.Head
public import proofs.«01_k».proof.Proof.Attn.Spec
public import proofs.«01_k».proof.Proof.Attn.Mask
public import Idealize.ShloMosaic.PureOps.Ideal.Laws

@[expose] public section

set_option maxRecDepth 16384

/-! # One head, read at an index

`headVal_at` reads `headVal` over the extended reals at row `r` and lane `d`: the weighted sum of the values by the
exponentials of the masked scores, divided once by their total. -/

namespace Cert.KernelIdeal.Gen

open Idealize.ShloMosaic Idealize.SL.Sem
open Cert.KernelIdeal Cert.Attn

noncomputable section

/-- The lane mask holds on the first half of each head's 64 lanes. -/
theorem lanes_at (r l : Fin 128) : k0_pay1 (ix2 r l) = if l.val % 64 < 32 then 1#1 else 0#1 := by
  unfold k0_pay1
  pointwise
  revert l
  decide +kernel

/-- `rotated` at row `r` and lane `l`. -/
theorem rotated_at (cos sin : FVec Ideal S128x128 .f32) (x : Vec Ideal S1x128x128 .bf16) (r l : Fin 128) :
    rotated cos sin x (ix2 r l) = x (ix3 0 r l) * cos (ix2 r l)
      + (if l.val % 64 < 32 then x (ix3 0 r ⟨(l.val + 32) % 128, by omega⟩) else x (ix3 0 r ⟨(l.val + 96) % 128, by omega⟩))
        * sin (ix2 r l) := by
  unfold rotated
  pointwise
  rw [lanes_at]
  by_cases h : l.val % 64 < 32
  · simp only [if_pos h]
    rfl
  · simp only [if_neg h]
    rfl

/-- The mask of the body is `Sees`. -/
theorem seen_at (i : grid0.Coords) (q : Fin 128) (t : Fin 384) :
    seen i (ix2 q t) = if Sees (i 1).val q.val t.val then 1#1 else 0#1 := by
  unfold seen
  unfold_payloads
  pointwise
  have hi := Cert.Attn.inside_dec ⟨(i 1).val, (i 1).isLt⟩ t
  rw [Cert.Attn.near_dec]
  dsimp only at hi
  rw [show ∀ a b c : BitVec 1, IntOp.andi (IntOp.andi a b) c = IntOp.andi a (IntOp.andi b c) from by decide, hi]
  refine (Cert.Attn.andi_ite _ _).trans (if_congr ?_ rfl rfl)
  exact Iff.rfl

/-- The scores of one head, at query row `r` and key row `t`. -/
theorem scores_at (cq sq cp sp cn sn : FVec Ideal S128x128 .f32) (kp kc kn q : Vec Ideal S1x128x128 .bf16)
    (og : Nat) (hog : S384x128.Slices ![0, og] S384x64) (oq : Nat) (hoq : S128x128.Slices ![0, oq] S128x64)
    (hg : og + 64 ≤ 128) (hq : oq + 64 ≤ 128) (r : Fin 128) (t : Fin 384) :
    scores cq sq cp sp cn sn kp kc kn q og hog oq hoq (ix2 r t)
      = ∑ e : Fin 64, rotated cq sq q (ix2 r ⟨oq + e.val, by omega⟩) * Ideal.ofBits .f32 0x3E000000#32
          * (if h : t.val < 128 then rotated cp sp kp (ix2 ⟨t.val, h⟩ ⟨og + e.val, by omega⟩)
             else if h' : t.val - 128 < 128 then rotated cq sq kc (ix2 ⟨t.val - 128, by omega⟩ ⟨og + e.val, by omega⟩)
             else rotated cn sn kn (ix2 ⟨t.val - 128 - 128, by omega⟩ ⟨og + e.val, by omega⟩)) := by
  unfold scores querySlab keySlab
  pointwise

theorem negInf : Ideal.ofBits .f32 0xFF800000#32 = ⊥ := by simp [Ideal.ofBits, Ideal.ieee]

/-- The scores outside the mask are `⊥`. -/
theorem pay19_at (i : grid0.Coords) (s : FVec Ideal S128x384 .f32) (r : Fin 128) (t : Fin 384) :
    k0_pay19 (seen i) s (ix2 r t) = if Sees (i 1).val r.val t.val then s (ix2 r t) else (⊥ : EReal) := by
  unfold k0_pay19
  pointwise
  rw [seen_at, show Named.named (F := Ideal) (φ := .f32) κ "mask" 0xF149F2CA#32 = ⊥ from by simp [Named.named, κ]]
  by_cases h : Sees (i 1).val r.val t.val
  · rw [if_pos h, if_pos h]; rfl
  · rw [if_neg h, if_neg h]; rfl

theorem pay23_at (m : IVec S128x384 1) (s : FVec Ideal S128x384 .f32) (sink : EReal) (r : Fin 128) (t : Fin 384) :
    k0_pay23 m s sink (ix2 r t) = Ideal.exp (k0_pay19 m s (ix2 r t) - k0_pay20 m s sink (ix2 r 0)) := by
  unfold k0_pay23 k0_pay21
  pointwise

theorem pay20_at (m : IVec S128x384 1) (s : FVec Ideal S128x384 .f32) (sink : EReal) (r : Fin 128) :
    k0_pay20 (F := Ideal) m s sink (ix2 r 0) = Cert.Attn.rowMax (fun t => k0_pay19 m s (ix2 r t)) sink := by
  unfold k0_pay20
  pointwise
  rw [negInf]
  rfl

theorem pay22_at (m : IVec S128x384 1) (s : FVec Ideal S128x384 .f32) (sink : EReal) (r : Fin 128) :
    k0_pay22 (F := Ideal) m s sink (ix2 r 0) = Cert.Attn.rowSum (fun t => k0_pay19 m s (ix2 r t)) sink := by
  unfold k0_pay22 k0_pay21
  pointwise
  rw [pay20_at]
  rfl

theorem pay37_at (v : FVec Ideal S384x64 .bf16) (dn : FVec Ideal S128x1 .f32) (p : FVec Ideal S128x384 .bf16) (r : Fin 128) (d : Fin 64) :
    k0_pay37 (F := Ideal) v dn p (ix3 0 r d) = Ideal.div (∑ t : Fin 384, p (ix2 r t) * v (ix2 t d)) (dn (ix2 r 0)) := by
  unfold k0_pay37
  pointwise

/-- One head's block, at row `r` and lane `d`. -/
theorem headVal_at (i : grid0.Coords) (cq sq cp sp cn sn : FVec Ideal S128x128 .f32)
    (kp kc kn vp vc vn q : Vec Ideal S1x128x128 .bf16) (sink : EReal)
    (og : Nat) (hog : S384x128.Slices ![0, og] S384x64) (oq : Nat) (hoq : S128x128.Slices ![0, oq] S128x64)
    (hg : og + 64 ≤ 128) (hq : oq + 64 ≤ 128) (r : Fin 128) (d : Fin 64) :
    headVal (F := Ideal) i cq sq cp sp cn sn kp kc kn vp vc vn q sink og hog oq hoq (ix3 0 r d)
      = rowOnce (fun t : Fin 384 => if Sees (i 1).val r.val t.val
            then scores cq sq cp sp cn sn kp kc kn q og hog oq hoq (ix2 r t) else (⊥ : EReal)) sink
          (fun t : Fin 384 => if h : t.val < 128 then vp (ix3 0 ⟨t.val, h⟩ ⟨og + d.val, by omega⟩)
             else if h' : t.val - 128 < 128 then vc (ix3 0 ⟨t.val - 128, h'⟩ ⟨og + d.val, by omega⟩)
             else vn (ix3 0 ⟨t.val - 128 - 128, by omega⟩ ⟨og + d.val, by omega⟩)) := by
  unfold headVal
  dsimp only
  rw [pay37_at, pay22_at]
  unfold rowOnce
  simp only [pay23_at, pay20_at, pay19_at]
  congr 1
  refine Finset.sum_congr rfl fun t _ => ?_
  congr 1
  unfold valSlab
  pointwise

/-- The table of cosines at position `s` and lane `l`: the lane's frequency repeats every 32 lanes. -/
theorem rotated_rope (cos sin : FVec Ideal S128x128 .f32) (x : Vec Ideal S1x128x128 .bf16) (r : Fin 128) (s p : Nat)
    (hp : p < 2) (hc : ∀ l : Fin 128, cos (ix2 r l) = cosTab s l.val) (hs : ∀ l : Fin 128, sin (ix2 r l) = sinTab s l.val)
    (e : Fin 64) (o : Nat) (ho : o = 64 * p) (h : o + e.val < 128) :
    rotated cos sin x (ix2 r ⟨o + e.val, h⟩) = rope (fun e : Fin 64 => x (ix3 0 r ⟨o + e.val, by omega⟩)) s e := by
  subst ho
  rw [rotated_at, hc, hs]
  have hm : (64 * p + e.val) % 64 = e.val := by omega
  unfold rope cosTab sinTab
  simp only [hm]
  by_cases h32 : e.val < 32
  · simp only [if_pos h32, dif_pos h32, mul_neg, ← sub_eq_add_neg]
    have e1 : (64 * p + e.val + 32) % 128 = 64 * p + (e.val + 32) := by omega
    simp only [e1]
  · simp only [if_neg h32, dif_neg h32]
    have e1 : (64 * p + e.val + 96) % 128 = 64 * p + (e.val - 32) := by omega
    simp only [e1]

end

end Cert.KernelIdeal.Gen
-- ==== Proof.Attn.Kernel.lean ====
module

public import proofs.«01_k».proof.Proof.Attn.Lanes
public import Idealize.ShloMosaic.Lib.WholeRead

@[expose] public section

set_option maxRecDepth 16384

/-! # The kernel's output block, by the formula

From the tables and the rows of the queries, keys and values that a grid point's blocks hold, `blockAt` at an index is
`rowOnce` of the formula's scores. -/

namespace Cert.KernelIdeal.Gen

open Idealize.ShloMosaic Idealize.SL.Sem
open Cert.KernelIdeal Cert.Attn

noncomputable section

/-- The position of row `t` of the stacked blocks: the block before and the block after are held inside the sequence. -/
def krow (n t : Nat) : Nat :=
  if t < 128 then 128 * (n - 1) + t else if t - 128 < 128 then 128 * n + (t - 128) else 128 * min (n + 1) 31 + (t - 128 - 128)

theorem krow_lt (n : Fin 32) (t : Fin 384) : krow n.val t.val < 4096 := by
  unfold krow; split
  · omega
  · split <;> omega

/-- Where the mask holds, that position is the window's. -/
theorem krow_of_sees (n : Fin 32) (q t : Nat) (ht : t < 384) (h : Sees n.val q t) : krow n.val t = (row n.val t).val := by
  unfold Sees at h
  unfold krow row
  dsimp only
  split
  · omega
  · split <;> omega

variable (A : (⟨3, ![4, 4096, 3072]⟩ : Shape).Idx → EReal) (b : Fin 4) (n h : Fin 32)

/-- The scores of head `h` where the mask holds. -/
theorem scores_spec (cq sq cp sp cn sn : FVec Ideal S128x128 .f32) (kp kc kn q : Vec Ideal S1x128x128 .bf16)
    (hcq : ∀ r l : Fin 128, cq (ix2 r l) = cosTab (128 * n.val + r.val) l.val)
    (hsq : ∀ r l : Fin 128, sq (ix2 r l) = sinTab (128 * n.val + r.val) l.val)
    (hcp : ∀ r l : Fin 128, cp (ix2 r l) = cosTab (128 * (n.val - 1) + r.val) l.val)
    (hsp : ∀ r l : Fin 128, sp (ix2 r l) = sinTab (128 * (n.val - 1) + r.val) l.val)
    (hcn : ∀ r l : Fin 128, cn (ix2 r l) = cosTab (128 * min (n.val + 1) 31 + r.val) l.val)
    (hsn : ∀ r l : Fin 128, sn (ix2 r l) = sinTab (128 * min (n.val + 1) 31 + r.val) l.val)
    (hq : ∀ r l : Fin 128, q (ix3 0 r l) = A (ix3 b ⟨128 * n.val + r.val, by omega⟩ ⟨128 * (h.val / 2) + l.val, by omega⟩))
    (hkp : ∀ r l : Fin 128, kp (ix3 0 r l) = A (ix3 b ⟨128 * (n.val - 1) + r.val, by omega⟩ ⟨2048 + (128 * (h.val / 8) + l.val), by omega⟩))
    (hkc : ∀ r l : Fin 128, kc (ix3 0 r l) = A (ix3 b ⟨128 * n.val + r.val, by omega⟩ ⟨2048 + (128 * (h.val / 8) + l.val), by omega⟩))
    (hkn : ∀ r l : Fin 128, kn (ix3 0 r l) = A (ix3 b ⟨128 * min (n.val + 1) 31 + r.val, by omega⟩ ⟨2048 + (128 * (h.val / 8) + l.val), by omega⟩))
    (r : Fin 128) (t : Fin 384) :
    (if Sees n.val r.val t.val then scores cq sq cp sp cn sn kp kc kn q (64 * (h.val / 4 % 2)) (slK h) (64 * (h.val % 2)) (slQ h) (ix2 r t) else (⊥ : EReal))
      = score A b n h r t := by
  unfold score
  by_cases hm : Sees n.val r.val t.val
  swap
  · rw [if_neg hm, if_neg hm]
  rw [if_pos hm, if_pos hm, scores_at _ _ _ _ _ _ _ _ _ _ _ _ _ _ (by omega) (by omega)]
  refine Eq.trans (Finset.sum_congr rfl fun e _ => ?_) (sum_scale _ eighth_nonneg eighth_ne_top _ _)
  have hQ : rotated cq sq q (ix2 r ⟨64 * (h.val % 2) + e.val, by omega⟩)
      = rope (head A b ⟨128 * n.val + r.val, by omega⟩ 0 h.val (by omega)) (128 * n.val + r.val) e := by
    rw [rotated_rope cq sq q r (128 * n.val + r.val) (h.val % 2) (by omega) (hcq r) (hsq r) e _ rfl (by omega)]
    congr 1
    funext e'
    rw [hq]
    unfold head
    congr 2
    apply Fin.ext
    dsimp only
    omega
  rw [hQ]
  congr 1
  have hrow := krow_of_sees n r.val t.val t.isLt hm
  have hK : ∀ (co si : FVec Ideal S128x128 .f32) (k : Vec Ideal S1x128x128 .bf16) (r' : Fin 128) (s : Nat) (hs : s < 4096),
      (∀ l : Fin 128, co (ix2 r' l) = cosTab s l.val) → (∀ l : Fin 128, si (ix2 r' l) = sinTab s l.val) →
      (∀ l : Fin 128, k (ix3 0 r' l) = A (ix3 b ⟨s, hs⟩ ⟨2048 + (128 * (h.val / 8) + l.val), by omega⟩)) →
      s = (row n.val t.val).val →
      rotated co si k (ix2 r' ⟨64 * (h.val / 4 % 2) + e.val, by omega⟩)
        = rope (head A b (row n.val t.val) 2048 (h.val / 4) (by omega)) (row n.val t.val).val e := by
    intro co si k r' s hs h1 h2 h3 h4
    rw [rotated_rope co si k r' s (h.val / 4 % 2) (by omega) h1 h2 e _ rfl (by omega), ← h4]
    congr 1
    funext e'
    rw [h3]
    unfold head
    congr 2
    · exact Fin.ext h4
    · apply Fin.ext
      dsimp only
      omega
  unfold krow at hrow
  by_cases h1 : t.val < 128
  · rw [if_pos h1] at hrow
    rw [dif_pos h1]
    exact hK cp sp kp ⟨t.val, h1⟩ _ (by omega) (hcp _) (hsp _) (hkp _) hrow
  · rw [if_neg h1] at hrow
    rw [dif_neg h1]
    by_cases h2 : t.val - 128 < 128
    · rw [if_pos h2] at hrow
      rw [dif_pos h2]
      exact hK cq sq kc ⟨t.val - 128, h2⟩ _ (by omega) (hcq _) (hsq _) (hkc _) hrow
    · rw [if_neg h2] at hrow
      rw [dif_neg h2]
      exact hK cn sn kn ⟨t.val - 128 - 128, by omega⟩ _ (by omega) (hcn _) (hsn _) (hkn _) hrow

/-- A table's load is the table. -/
theorem tab_load (a : Memref sig .tc .vmem S128x128 .f32) (ha : a.IsWhole) (x : Vec Ideal S128x128 .f32) (r l : Fin 128) :
    k0_pay2 (View.readAt (Elt Ideal) a.view (Rect.unit ![0, 0] S128x128.size inb_S128x128_S128x128_0_0).toLoadRect (ha.unread x)) (ix2 r l)
      = x (ix2 r l) := by
  unfold k0_pay2
  pointwise
  rw [Memref.IsWhole.readAt_unread]
  congr 1
  funext a
  apply Fin.ext
  match a with
  | 0 => change 0 + 1 * r.val = r.val; omega
  | 1 => change 0 + 1 * l.val = l.val; omega

/-- A load of two heads' lanes out of a block of 512. -/
theorem key_load (h : Fin 32) (a : Memref sig .tc .vmem S1x128x512 .bf16) (ha : a.IsWhole) (x : Vec Ideal S1x128x512 .bf16) (r l : Fin 128) :
    View.readAt (Elt Ideal) a.view (Rect.unit (s := S1x128x512) ![0, 0, 128 * (h.val / 8)] S1x128x128.size (inbK h)).toLoadRect (ha.unread x) (ix3 0 r l)
      = x (ix3 0 r ⟨128 * (h.val / 8) + l.val, by omega⟩) := by
  rw [Memref.IsWhole.readAt_unread]
  congr 1
  funext a
  apply Fin.ext
  match a with
  | 0 => rfl
  | 1 => change 0 + 1 * r.val = r.val; omega
  | 2 => change 128 * (h.val / 8) + 1 * l.val = _ + l.val; omega

/-- A load of two heads' lanes out of a query block. -/
theorem query_load (h : Fin 32) (a : Memref sig .tc .vmem S1x128x2048 .bf16) (ha : a.IsWhole) (x : Vec Ideal S1x128x2048 .bf16) (r l : Fin 128) :
    View.readAt (Elt Ideal) a.view (Rect.unit (s := S1x128x2048) ![0, 0, 128 * (h.val / 2)] S1x128x128.size (inbQ h)).toLoadRect (ha.unread x) (ix3 0 r l)
      = x (ix3 0 r ⟨128 * (h.val / 2) + l.val, by omega⟩) := by
  rw [Memref.IsWhole.readAt_unread]
  congr 1
  funext a
  apply Fin.ext
  match a with
  | 0 => rfl
  | 1 => change 0 + 1 * r.val = r.val; omega
  | 2 => change 128 * (h.val / 2) + 1 * l.val = _ + l.val; omega

/-- The load of a sink logit. -/
theorem sink_load (h : Fin 32) (a : Memref sig .tc .smem S32 .f32) (ha : a.IsWhole) (x : Vec Ideal S32 .f32) :
    View.readAt (Elt Ideal) a.view (Rect.unit (s := S32) ![h.val] S1.size (inbS h)).toLoadRect (ha.unread x) (Shape.Idx.first (show 0 < S1.numel by decide))
      = x (ix1 h) := by
  rw [Memref.IsWhole.readAt_unread]
  congr 1
  funext a
  apply Fin.ext
  match a with
  | 0 => change h.val + 1 * 0 = h.val; omega

/-- The values head `h` weighs, at lane `d`. -/
def kval (d : Fin 64) (t : Fin 384) : EReal := head A b ⟨krow n.val t.val, krow_lt n t⟩ 2560 (h.val / 4) (by omega) d

/-- Head `h`'s block at row `r` and lane `d`, from what the grid point's blocks hold. -/
theorem headAt_spec (S : (⟨1, ![32]⟩ : Shape).Idx → EReal) (i : grid0.Coords) (hi : (i 1).val = n.val) (arg2 : Memref sig .tc .smem S32 .f32) (harg2 : arg2.IsWhole) (arg3 : Memref sig .tc .vmem S1x128x2048 .bf16) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128x512 .bf16) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
    (x0 : Vec Ideal S32 .f32) (x1 : Vec Ideal S1x128x2048 .bf16) (x2 : Vec Ideal S1x128x512 .bf16) (x3 : Vec Ideal S1x128x512 .bf16) (x4 : Vec Ideal S1x128x512 .bf16) (x5 : Vec Ideal S1x128x512 .bf16) (x6 : Vec Ideal S1x128x512 .bf16) (x7 : Vec Ideal S1x128x512 .bf16) (x8 : Vec Ideal S128x128 .f32) (x9 : Vec Ideal S128x128 .f32) (x10 : Vec Ideal S128x128 .f32) (x11 : Vec Ideal S128x128 .f32) (x12 : Vec Ideal S128x128 .f32) (x13 : Vec Ideal S128x128 .f32)
    (h0 : ∀ g : Fin 32, x0 (ix1 g) = S (ix1 g))
    (h1 : ∀ (r : Fin 128) (l : Fin 2048), x1 (ix3 0 r l) = A (ix3 b ⟨128 * n.val + r.val, by omega⟩ ⟨l.val, by omega⟩))
    (h2 : ∀ (r : Fin 128) (l : Fin 512), x2 (ix3 0 r l) = A (ix3 b ⟨128 * (n.val - 1) + r.val, by omega⟩ ⟨2048 + l.val, by omega⟩))
    (h3 : ∀ (r : Fin 128) (l : Fin 512), x3 (ix3 0 r l) = A (ix3 b ⟨128 * n.val + r.val, by omega⟩ ⟨2048 + l.val, by omega⟩))
    (h4 : ∀ (r : Fin 128) (l : Fin 512), x4 (ix3 0 r l) = A (ix3 b ⟨128 * min (n.val + 1) 31 + r.val, by omega⟩ ⟨2048 + l.val, by omega⟩))
    (h5 : ∀ (r : Fin 128) (l : Fin 512), x5 (ix3 0 r l) = A (ix3 b ⟨128 * (n.val - 1) + r.val, by omega⟩ ⟨2560 + l.val, by omega⟩))
    (h6 : ∀ (r : Fin 128) (l : Fin 512), x6 (ix3 0 r l) = A (ix3 b ⟨128 * n.val + r.val, by omega⟩ ⟨2560 + l.val, by omega⟩))
    (h7 : ∀ (r : Fin 128) (l : Fin 512), x7 (ix3 0 r l) = A (ix3 b ⟨128 * min (n.val + 1) 31 + r.val, by omega⟩ ⟨2560 + l.val, by omega⟩))
    (h8 : ∀ r l : Fin 128, x8 (ix2 r l) = cosTab (128 * n.val + r.val) l.val)
    (h9 : ∀ r l : Fin 128, x9 (ix2 r l) = sinTab (128 * n.val + r.val) l.val)
    (h10 : ∀ r l : Fin 128, x10 (ix2 r l) = cosTab (128 * (n.val - 1) + r.val) l.val)
    (h11 : ∀ r l : Fin 128, x11 (ix2 r l) = sinTab (128 * (n.val - 1) + r.val) l.val)
    (h12 : ∀ r l : Fin 128, x12 (ix2 r l) = cosTab (128 * min (n.val + 1) 31 + r.val) l.val)
    (h13 : ∀ r l : Fin 128, x13 (ix2 r l) = sinTab (128 * min (n.val + 1) 31 + r.val) l.val)
    (r : Fin 128) (d : Fin 64) :
    headAt (F := Ideal) h i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 (ix3 0 r d)
      = rowOnce (score A b n h r) (S (ix1 h)) (kval A b n h d) := by
  unfold headAt
  rw [headVal_at i _ _ _ _ _ _ _ _ _ _ _ _ _ _ _ _ _ _ (by omega) (by omega) r d, sink_load, h0, hi]
  congr 1
  · funext t
    exact scores_spec A b n h _ _ _ _ _ _ _ _ _ _
      (fun r l => (tab_load _ _ _ r l).trans (h8 r l)) (fun r l => (tab_load _ _ _ r l).trans (h9 r l))
      (fun r l => (tab_load _ _ _ r l).trans (h10 r l)) (fun r l => (tab_load _ _ _ r l).trans (h11 r l))
      (fun r l => (tab_load _ _ _ r l).trans (h12 r l)) (fun r l => (tab_load _ _ _ r l).trans (h13 r l))
      (fun r l => (query_load h _ _ _ r l).trans (h1 r _))
      (fun r l => (key_load h _ _ _ r l).trans (h2 r _)) (fun r l => (key_load h _ _ _ r l).trans (h3 r _))
      (fun r l => (key_load h _ _ _ r l).trans (h4 r _)) r t
  · funext t
    have key : ∀ (s : Nat) (hs : s < 4096), s = krow n.val t.val →
        A (ix3 b ⟨s, hs⟩ ⟨2560 + (128 * (h.val / 8) + (64 * (h.val / 4 % 2) + d.val)), by omega⟩) = kval A b n h d t := by
      intro s hs e
      unfold kval head
      congr 2
      · exact Fin.ext e
      · apply Fin.ext; dsimp only; omega
    unfold krow at key
    by_cases c1 : t.val < 128
    · rw [dif_pos c1, key_load, h5]
      exact key _ _ (if_pos c1).symm
    · rw [dif_neg c1]
      rw [if_neg c1] at key
      by_cases c2 : t.val - 128 < 128
      · rw [dif_pos c2, key_load, h6]
        exact key _ _ (if_pos c2).symm
      · rw [dif_neg c2, key_load, h7]
        exact key _ _ (if_neg c2).symm

end

end Cert.KernelIdeal.Gen
-- ==== Proof.Attn.KernelRun.lean ====
module

public import proofs.«01_k».proof.Proof.Attn.Kernel
public import Idealize.ShloMosaic.Lib.Pipeline.ValueKit
public import Idealize.ShloMosaic.Lib.Claim
public import Idealize.ShloMosaic.Lib.Tactic.CleanTypes

@[expose] public section

set_option maxRecDepth 16384

/-! # What the kernel's run leaves in its result

The blocks each grid point reads, placed in the arrays, and the result array read through the blocks written back. -/

namespace Cert.KernelIdeal.Gen

open Idealize.ShloMosaic Idealize.SL.Sem Idealize.ShloMosaic.TcCoe
open Cert.KernelIdeal Cert.Attn

noncomputable section

/-- The sequence of a grid point. -/
def seqOf (t : Fin cfg0.N) : Fin 4 := ⟨(grid0.coords t 0).val, (grid0.coords t 0).isLt⟩

/-- The block of a grid point. -/
def blkOf (t : Fin cfg0.N) : Fin 32 := ⟨(grid0.coords t 1).val, (grid0.coords t 1).isLt⟩

theorem idx0_0 : ∀ t : Fin cfg0.N, win0_0.index t = ![0] := by decide +kernel
theorem idx0_1 : ∀ t : Fin cfg0.N, win0_1.index t = ![(seqOf t).val, (blkOf t).val, 0] := by decide +kernel
theorem idx0_2 : ∀ t : Fin cfg0.N, win0_2.index t = ![(seqOf t).val, (blkOf t).val - 1, 4] := by decide +kernel
theorem idx0_3 : ∀ t : Fin cfg0.N, win0_3.index t = ![(seqOf t).val, (blkOf t).val, 4] := by decide +kernel
theorem idx0_4 : ∀ t : Fin cfg0.N, win0_4.index t = ![(seqOf t).val, min ((blkOf t).val + 1) 31, 4] := by decide +kernel
theorem idx0_5 : ∀ t : Fin cfg0.N, win0_5.index t = ![(seqOf t).val, (blkOf t).val - 1, 5] := by decide +kernel
theorem idx0_6 : ∀ t : Fin cfg0.N, win0_6.index t = ![(seqOf t).val, (blkOf t).val, 5] := by decide +kernel
theorem idx0_7 : ∀ t : Fin cfg0.N, win0_7.index t = ![(seqOf t).val, min ((blkOf t).val + 1) 31, 5] := by decide +kernel
theorem idx0_8 : ∀ t : Fin cfg0.N, win0_8.index t = ![(blkOf t).val, 0] := by decide +kernel
theorem idx0_9 : ∀ t : Fin cfg0.N, win0_9.index t = ![(blkOf t).val, 0] := by decide +kernel
theorem idx0_10 : ∀ t : Fin cfg0.N, win0_10.index t = ![(blkOf t).val - 1, 0] := by decide +kernel
theorem idx0_11 : ∀ t : Fin cfg0.N, win0_11.index t = ![(blkOf t).val - 1, 0] := by decide +kernel
theorem idx0_12 : ∀ t : Fin cfg0.N, win0_12.index t = ![min ((blkOf t).val + 1) 31, 0] := by decide +kernel
theorem idx0_13 : ∀ t : Fin cfg0.N, win0_13.index t = ![min ((blkOf t).val + 1) 31, 0] := by decide +kernel
theorem idx0_14 : ∀ t : Fin cfg0.N, win0_14.index t = ![(seqOf t).val, (blkOf t).val, 0] := by decide +kernel

variable (m : (ℓ : Loc nD τ sig) → Buf (Elt Ideal) ℓ) (c : Dev nD) (t : Fin cfg0.N)

/-- The queries, keys and values the kernel is given. -/
def argA : (⟨3, ![4, 4096, 3072]⟩ : Shape).Idx → EReal := m ((c.tc : Thread nD τ).loc main_arg0)

/-- The sink logits the kernel is given. -/
def argS : (⟨1, ![32]⟩ : Shape).Idx → EReal := m ((c.tc : Thread nD τ).loc main_arg1)

theorem blk0 (h : Fin 32) : (iblk m c 0 t : Vec Ideal S32 .f32) (ix1 h) = argS m c (ix1 h) := by
  unfold argS
  blk_ext [iblk, V_main_arg1, idx0_0 t]

theorem blk1 (r : Fin 128) (l : Fin 2048) : (X0_1 m c t : Vec Ideal S1x128x2048 .bf16) (ix3 0 r l)
    = argA m c (ix3 (seqOf t) ⟨128 * (blkOf t).val + r.val, by omega⟩ ⟨l.val, by omega⟩) := by
  unfold X0_1 Pipeline.Window.fill argA
  rw [dif_pos (moved0_1 t _)]
  blk_ext [iblk, V_main_arg0, idx0_1 t]

theorem blk2 (r : Fin 128) (l : Fin 512) : (iblk m c 2 t : Vec Ideal S1x128x512 .bf16) (ix3 0 r l)
    = argA m c (ix3 (seqOf t) ⟨128 * ((blkOf t).val - 1) + r.val, by omega⟩ ⟨2048 + l.val, by omega⟩) := by
  unfold argA
  blk_ext [iblk, V_main_arg0, idx0_2 t]

theorem blk3 (r : Fin 128) (l : Fin 512) : (iblk m c 3 t : Vec Ideal S1x128x512 .bf16) (ix3 0 r l)
    = argA m c (ix3 (seqOf t) ⟨128 * (blkOf t).val + r.val, by omega⟩ ⟨2048 + l.val, by omega⟩) := by
  unfold argA
  blk_ext [iblk, V_main_arg0, idx0_3 t]

theorem blk4 (r : Fin 128) (l : Fin 512) : (iblk m c 4 t : Vec Ideal S1x128x512 .bf16) (ix3 0 r l)
    = argA m c (ix3 (seqOf t) ⟨128 * min ((blkOf t).val + 1) 31 + r.val, by omega⟩ ⟨2048 + l.val, by omega⟩) := by
  unfold argA
  blk_ext [iblk, V_main_arg0, idx0_4 t]

theorem blk5 (r : Fin 128) (l : Fin 512) : (iblk m c 5 t : Vec Ideal S1x128x512 .bf16) (ix3 0 r l)
    = argA m c (ix3 (seqOf t) ⟨128 * ((blkOf t).val - 1) + r.val, by omega⟩ ⟨2560 + l.val, by omega⟩) := by
  unfold argA
  blk_ext [iblk, V_main_arg0, idx0_5 t]

theorem blk6 (r : Fin 128) (l : Fin 512) : (iblk m c 6 t : Vec Ideal S1x128x512 .bf16) (ix3 0 r l)
    = argA m c (ix3 (seqOf t) ⟨128 * (blkOf t).val + r.val, by omega⟩ ⟨2560 + l.val, by omega⟩) := by
  unfold argA
  blk_ext [iblk, V_main_arg0, idx0_6 t]

theorem blk7 (r : Fin 128) (l : Fin 512) : (iblk m c 7 t : Vec Ideal S1x128x512 .bf16) (ix3 0 r l)
    = argA m c (ix3 (seqOf t) ⟨128 * min ((blkOf t).val + 1) 31 + r.val, by omega⟩ ⟨2560 + l.val, by omega⟩) := by
  unfold argA
  blk_ext [iblk, V_main_arg0, idx0_7 t]

/-- The host's cosine table. -/
theorem cos_table (s : Fin 4096) (l : Fin 128) : (V m c main_v21 : Vec Ideal S4096x128 .f32) (ix2 s l) = cosTab s.val l.val := by
  entry_read
  clean_types
  pointwise
  rfl

/-- The host's sine table. -/
theorem sin_table (s : Fin 4096) (l : Fin 128) : (V m c main_v26 : Vec Ideal S4096x128 .f32) (ix2 s l) = sinTab s.val l.val := by
  entry_read
  clean_types
  pointwise
  rfl

theorem blk8 (r l : Fin 128) : (iblk m c 8 t : Vec Ideal S128x128 .f32) (ix2 r l) = cosTab (128 * (blkOf t).val + r.val) l.val := by
  refine Eq.trans ?_ (cos_table m c ⟨128 * (blkOf t).val + r.val, by omega⟩ l)
  blk_ext [iblk, idx0_8 t]

theorem blk9 (r l : Fin 128) : (iblk m c 9 t : Vec Ideal S128x128 .f32) (ix2 r l) = sinTab (128 * (blkOf t).val + r.val) l.val := by
  refine Eq.trans ?_ (sin_table m c ⟨128 * (blkOf t).val + r.val, by omega⟩ l)
  blk_ext [iblk, idx0_9 t]

theorem blk10 (r l : Fin 128) : (iblk m c 10 t : Vec Ideal S128x128 .f32) (ix2 r l) = cosTab (128 * ((blkOf t).val - 1) + r.val) l.val := by
  refine Eq.trans ?_ (cos_table m c ⟨128 * ((blkOf t).val - 1) + r.val, by omega⟩ l)
  blk_ext [iblk, idx0_10 t]

theorem blk11 (r l : Fin 128) : (iblk m c 11 t : Vec Ideal S128x128 .f32) (ix2 r l) = sinTab (128 * ((blkOf t).val - 1) + r.val) l.val := by
  refine Eq.trans ?_ (sin_table m c ⟨128 * ((blkOf t).val - 1) + r.val, by omega⟩ l)
  blk_ext [iblk, idx0_11 t]

theorem blk12 (r l : Fin 128) : (iblk m c 12 t : Vec Ideal S128x128 .f32) (ix2 r l) = cosTab (128 * min ((blkOf t).val + 1) 31 + r.val) l.val := by
  refine Eq.trans ?_ (cos_table m c ⟨128 * min ((blkOf t).val + 1) 31 + r.val, by omega⟩ l)
  blk_ext [iblk, idx0_12 t]

theorem blk13 (r l : Fin 128) : (iblk m c 13 t : Vec Ideal S128x128 .f32) (ix2 r l) = sinTab (128 * min ((blkOf t).val + 1) 31 + r.val) l.val := by
  refine Eq.trans ?_ (sin_table m c ⟨128 * min ((blkOf t).val + 1) 31 + r.val, by omega⟩ l)
  blk_ext [iblk, idx0_13 t]

/-- The result: every entry by the formula, divided once. -/
def result (y : (⟨3, ![4, 4096, 2048]⟩ : Shape).Idx) : EReal :=
  have h1 : (y 1).val < 4096 := (y 1).isLt
  have h2 : (y 2).val < 2048 := (y 2).isLt
  rowOnce (score (argA m c) (y 0) ⟨(y 1).val / 128, by omega⟩ ⟨(y 2).val / 64, by omega⟩ ⟨(y 1).val % 128, by omega⟩)
    (argS m c (ix1 ⟨(y 2).val / 64, by omega⟩))
    (kval (argA m c) (y 0) ⟨(y 1).val / 128, by omega⟩ ⟨(y 2).val / 64, by omega⟩ ⟨(y 2).val % 64, by omega⟩)

/-- The output block of a grid point, read at an index. -/
theorem outs_at (y : S1x128x2048.Idx) :
    outsAt0 m c t y = result m c (ix3 (seqOf t) ⟨128 * (blkOf t).val + (y 1).val, by have h : (y 1).val < 128 := (y 1).isLt; omega⟩
      ⟨(y 2).val, by have h : (y 2).val < 2048 := (y 2).isLt; omega⟩) := by
  have e1 : (y 1).val < 128 := (y 1).isLt
  have e2 : (y 2).val < 2048 := (y 2).isLt
  unfold outsAt0
  rw [out_eq_heads]
  unfold blockAt
  refine (headAt_spec (argA m c) (seqOf t) (blkOf t) ⟨(y 2).val / 64, by omega⟩ (argS m c) (grid0.coords t) rfl _ _ _ _ _ _ _ _ _ _ _ _ _ _ _ _ _ _ _ _ _ _ _ _ _ _ _ _ _ _ _ _ _ _ _ _ _ _ _ _ _ _
    (blk0 m c t) (blk1 m c t) (blk2 m c t) (blk3 m c t) (blk4 m c t) (blk5 m c t) (blk6 m c t) (blk7 m c t) (blk8 m c t) (blk9 m c t)
    (blk10 m c t) (blk11 m c t) (blk12 m c t) (blk13 m c t) ⟨(y 1).val, e1⟩ ⟨(y 2).val % 64, by omega⟩).trans ?_
  unfold result
  dsimp only
  have a1 : (128 * (blkOf t).val + (y 1).val) / 128 = (blkOf t).val := by omega
  have a2 : (128 * (blkOf t).val + (y 1).val) % 128 = (y 1).val := by omega
  simp only [ix3_0, ix3_1, ix3_2, a1, a2]

/-- The result array after the run. -/
theorem final : (dats m 0 c).arrAt 14 cfg0.N = result m c := by
  refine (dats m 0 c).arrAt_eq_of_covers 14 _ (by decide +kernel) fun t hf y => ?_
  blk_simp
  refine (congrFun (after0_14 m c t) y).trans ((outs_at m c t y).trans (congrArg (result m c) ?_))
  blk_ext [idx0_14 t]

end

end Cert.KernelIdeal.Gen
-- ==== Proof.Attn.Ref.lean ====
module

public import proofs.«01_k».proof.Proof.Gen.ReferenceIdeal.Run
public import proofs.«01_k».proof.Proof.Attn.Spec
public import proofs.«01_k».proof.Proof.Attn.Mask
public import Idealize.ShloMosaic.Lib.Tactic.CleanTypes

@[expose] public section

set_option maxRecDepth 16384

/-! # What the reference computes, by the formula

Each stage of the reference read at an index: the rotated keys over the padded sequence, the masked scores, their
maximum with the sink, and the weighted sum of the values. -/

namespace Cert.ReferenceIdeal.Value

open Idealize.ShloMosaic Idealize.SL.Sem Idealize.ShloMosaic.StableHlo Idealize.ShloMosaic.TcCoe
open Cert.ReferenceIdeal Cert.ReferenceIdeal.Gen Cert.Attn

noncomputable section

variable (V0 : Valuation τ sig (Elt Ideal))

/-- The queries, keys and values the reference is given. -/
def argA : (⟨3, ![4, 4096, 3072]⟩ : Shape).Idx → EReal := V0 (Proc.devRef .tc main_arg0)

/-- The sink logits the reference is given. -/
def argS : (⟨1, ![32]⟩ : Shape).Idx → EReal := V0 (Proc.devRef .tc main_arg1)

theorem v24_at (s : Fin 4096) (i : Fin 32) :
    (res_main_v24 V0 : FVec Ideal S1x4096x1x32 .f32) (ix4 0 s 0 i) = Ideal.cos (angle s.val i.val) := by
  unfold res_main_v24 res_main_v22 res_main_v7
  clean_types
  pointwise
  rfl

theorem v26_at (s : Fin 4096) (i : Fin 32) :
    (res_main_v26 V0 : FVec Ideal S1x4096x1x32 .f32) (ix4 0 s 0 i) = Ideal.sin (angle s.val i.val) := by
  unfold res_main_v26 res_main_v22 res_main_v7
  clean_types
  pointwise
  rfl

theorem v56_at (s : Fin 4096) (i : Fin 32) :
    (res_main_v56 V0 : FVec Ideal S1x4096x1x32 .f32) (ix4 0 s 0 i) = Ideal.cos (angle s.val i.val) := by
  unfold res_main_v56 res_main_v54 res_main_v7
  clean_types
  pointwise
  rfl

theorem v58_at (s : Fin 4096) (i : Fin 32) :
    (res_main_v58 V0 : FVec Ideal S1x4096x1x32 .f32) (ix4 0 s 0 i) = Ideal.sin (angle s.val i.val) := by
  unfold res_main_v58 res_main_v54 res_main_v7
  clean_types
  pointwise
  rfl

theorem v27_at (b : Fin 4) (s : Fin 4096) (h i : Fin 32) :
    (res_main_v27 V0 : FVec Ideal S4x4096x32x32 .f32) (ix4 b s h i) = head (argA V0) b s 0 h.val (by omega) ⟨i.val, by omega⟩ := by
  unfold res_main_v27 res_main_v2 res_main_v0 head argA
  clean_types
  pointwise
  congr 2
  apply Fin.ext; dsimp only; omega

theorem v28_at (b : Fin 4) (s : Fin 4096) (h i : Fin 32) :
    (res_main_v28 V0 : FVec Ideal S4x4096x32x32 .f32) (ix4 b s h i) = head (argA V0) b s 0 h.val (by omega) ⟨i.val + 32, by omega⟩ := by
  unfold res_main_v28 res_main_v2 res_main_v0 head argA
  clean_types
  pointwise
  congr 2
  apply Fin.ext; dsimp only; omega

theorem v59_at (b : Fin 4) (s : Fin 4096) (g : Fin 8) (i : Fin 32) :
    (res_main_v59 V0 : FVec Ideal S4x4096x8x32 .f32) (ix4 b s g i) = head (argA V0) b s 2048 g.val (by omega) ⟨i.val, by omega⟩ := by
  unfold res_main_v59 res_main_v4 res_main_v0 head argA
  clean_types
  pointwise
  congr 2
  apply Fin.ext; dsimp only; omega

theorem v60_at (b : Fin 4) (s : Fin 4096) (g : Fin 8) (i : Fin 32) :
    (res_main_v60 V0 : FVec Ideal S4x4096x8x32 .f32) (ix4 b s g i) = head (argA V0) b s 2048 g.val (by omega) ⟨i.val + 32, by omega⟩ := by
  unfold res_main_v60 res_main_v4 res_main_v0 head argA
  clean_types
  pointwise
  congr 2
  apply Fin.ext; dsimp only; omega

/-- The host operations read by `keys_gen`. -/
def keysOf (X56 : FVec Ideal S1x4096x1x32 .f32) (X58 : FVec Ideal S1x4096x1x32 .f32) (X59 : FVec Ideal S4x4096x8x32 .f32) (X60 : FVec Ideal S4x4096x8x32 .f32) : FVec Ideal S4x34x128x8x64 .f32 :=
  shapeCast _ (pad S4x4352x8x64 ![0, 128, 0, 0] ![0, 128, 0, 0] ![0, 0, 0, 0] (concatenate S4x4096x8x64 3 [⟨S4x4096x8x32, (subf (mulf X59 (broadcastInDim S4x4096x8x32 ![0, 1, 2, 3] bcast_S1x4096x1x32_S4x4096x8x32_0_1_2_3 X56)) (mulf X60 (broadcastInDim S4x4096x8x32 ![0, 1, 2, 3] bcast_S1x4096x1x32_S4x4096x8x32_0_1_2_3 X58)))⟩, ⟨S4x4096x8x32, (addf (mulf X60 (broadcastInDim S4x4096x8x32 ![0, 1, 2, 3] bcast_S1x4096x1x32_S4x4096x8x32_0_1_2_3 X56)) (mulf X59 (broadcastInDim S4x4096x8x32 ![0, 1, 2, 3] bcast_S1x4096x1x32_S4x4096x8x32_0_1_2_3 X58)))⟩] concatenates_S4x4096x8x32_S4x4096x8x32_S4x4096x8x64_d3) (constant S_ .f32 0x00000000#32) pads_S4x4096x8x64_S4x4352x8x64_000_1281280_000_000 h_S_) shapeCasts_S4x4352x8x64_S4x34x128x8x64

theorem v74_eq : res_main_v74 V0 = keysOf (res_main_v56 V0) (res_main_v58 V0) (res_main_v59 V0) (res_main_v60 V0) := rfl

/-- The keys rotated, padded and cut into blocks, over any rotated halves and tables. -/
theorem keys_gen (X56 : FVec Ideal S1x4096x1x32 .f32) (X58 : FVec Ideal S1x4096x1x32 .f32) (X59 : FVec Ideal S4x4096x8x32 .f32) (X60 : FVec Ideal S4x4096x8x32 .f32) (b : Fin 4) (n : Fin 34) (r : Fin 128) (g : Fin 8) (e : Fin 64) (s : Fin 4096)
    (hs : n.val * 128 + r.val = s.val + 128) :
    keysOf X56 X58 X59 X60 (ix5 b n r g e)
      = if h : e.val < 32 then X59 (ix4 b s g ⟨e.val, h⟩) * X56 (ix4 0 s 0 ⟨e.val, h⟩) - X60 (ix4 b s g ⟨e.val, h⟩) * X58 (ix4 0 s 0 ⟨e.val, h⟩)
        else X60 (ix4 b s g ⟨e.val - 32, by omega⟩) * X56 (ix4 0 s 0 ⟨e.val - 32, by omega⟩)
          + X59 (ix4 b s g ⟨e.val - 32, by omega⟩) * X58 (ix4 0 s 0 ⟨e.val - 32, by omega⟩) := by
  unfold keysOf
  pointwise
  have e1 : n.val * 128 + r.val - 128 = s.val := by omega
  rw [dif_pos ⟨by omega, by omega⟩]
  simp only [e1, Fin.eta]

/-- The rotated keys over the padded sequence. -/
theorem v74_at (b : Fin 4) (n : Fin 34) (r : Fin 128) (g : Fin 8) (e : Fin 64) (s : Fin 4096) (hs : n.val * 128 + r.val = s.val + 128) :
    (res_main_v74 V0 : FVec Ideal S4x34x128x8x64 .f32) (ix5 b n r g e) = rope (head (argA V0) b s 2048 g.val (by omega)) s.val e := by
  rw [v74_eq, keys_gen _ _ _ _ b n r g e s hs]
  unfold rope
  by_cases h : e.val < 32
  · rw [dif_pos h, dif_pos h, v59_at, v56_at, v60_at, v58_at]
  · rw [dif_neg h, dif_neg h, v59_at, v56_at, v60_at, v58_at]
    have e2 : e.val - 32 + 32 = e.val := by omega
    simp only [e2, Fin.eta]

/-- The values over the padded sequence, inside it. -/
theorem v80_at (b : Fin 4) (n : Fin 34) (r : Fin 128) (g : Fin 8) (e : Fin 64) (s : Fin 4096) (hs : n.val * 128 + r.val = s.val + 128) :
    (res_main_v80 V0 : FVec Ideal S4x34x128x8x64 .f32) (ix5 b n r g e) = head (argA V0) b s 2560 g.val (by omega) e := by
  unfold res_main_v80 res_main_v0 head argA
  clean_types
  pointwise
  have e1 : n.val * 128 + r.val - 128 = s.val := by omega
  rw [dif_pos ⟨by omega, by omega⟩]
  congr 2
  · exact Fin.ext e1
  · apply Fin.ext; dsimp only; omega

theorem v111_at (n : Fin 32) (t : Fin 384) :
    (res_main_v111 V0 : IVec S32x384 32) (ix2 n t)
      = IntOp.addi (Scalar.subi (Scalar.muli (BitVec.ofNat 32 n.val) 128#32) 128#32) (BitVec.ofNat 32 t.val) := by
  unfold res_main_v111
  clean_types
  pointwise
  rfl

/-- A row of the padded keys in a window, where the mask holds. -/
theorem window_row (n : Fin 32) (q t : Nat) (ht : t < 384) (h : Sees n.val q t) : 128 * n.val + t = (row n.val t).val + 128 := by
  unfold Sees at h
  unfold row
  dsimp only
  omega

/-- A row of three stacked blocks of the padded sequence. -/
def pick (X : FVec Ideal S4x34x128x8x64 .f32) (b : Fin 4) (n : Fin 32) (t : Fin 384) (g : Fin 8) (x : Fin 64) : EReal :=
  if h : t.val < 128 then X (ix5 b ⟨n.val, by omega⟩ ⟨t.val, h⟩ g x)
  else if h' : t.val - 128 < 128 then X (ix5 b ⟨1 + n.val, by omega⟩ ⟨t.val - 128, h'⟩ g x)
  else X (ix5 b ⟨2 + n.val, by omega⟩ ⟨t.val - 128 - 128, by omega⟩ g x)

end

end Cert.ReferenceIdeal.Value
-- ==== Proof.Attn.RefScores.lean ====
module

public import proofs.«01_k».proof.Proof.Attn.Ref
public import Idealize.ShloMosaic.Lib.Tactic.CleanTypes

@[expose] public section

set_option maxRecDepth 16384

/-! # The reference's masked scores and their exponentials -/

namespace Cert.ReferenceIdeal.Value

open Idealize.ShloMosaic Idealize.SL.Sem Idealize.ShloMosaic.StableHlo Idealize.ShloMosaic.TcCoe
open Cert.ReferenceIdeal Cert.ReferenceIdeal.Gen Cert.Attn

noncomputable section

variable (V0 : Valuation τ sig (Elt Ideal))

/-- The host operations read by `scores_gen`. -/
def scoresOf (X24 : FVec Ideal S1x4096x1x32 .f32) (X26 : FVec Ideal S1x4096x1x32 .f32) (X27 : FVec Ideal S4x4096x32x32 .f32) (X28 : FVec Ideal S4x4096x32x32 .f32) (X74 : FVec Ideal S4x34x128x8x64 .f32) (X111 : IVec S32x384 32) : FVec Ideal S4x32x8x4x128x384 .f32 :=
  select (broadcastInDim S4x32x8x4x128x384 ![0, 1, 2, 3, 4, 5] bcast_S1x32x1x1x128x384_S4x32x8x4x128x384_0_1_2_3_4_5 (broadcastInDim S1x32x1x1x128x384 ![1, 4, 5] bcast_S32x128x384_S1x32x1x1x128x384_1_4_5 (andi (broadcastInDim S32x128x384 ![0, 1, 2] bcast_S1x128x384_S32x128x384_0_1_2 (broadcastInDim S1x128x384 ![1, 2] bcast_S128x384_S1x128x384_1_2 (cmpi .sle (absi (subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0))))) (broadcastInDim S128x384 ![] bcast_S_S128x384 (constantI S_ 32 128#32))))) (broadcastInDim S32x128x384 ![0, 1, 2] bcast_S32x1x384_S32x128x384_0_1_2 (broadcastInDim S32x1x384 ![0, 2] bcast_S32x384_S32x1x384_0_2 (andi (cmpi .sge X111 (broadcastInDim S32x384 ![] bcast_S_S32x384 (constantI S_ 32 0#32))) (cmpi .slt X111 (broadcastInDim S32x384 ![] bcast_S_S32x384 (constantI S_ 32 4096#32))))))))) (mulf (transpose S4x32x8x4x128x384 [0, 1, 2, 5, 4, 3] (Host.dotGeneral (F := Ideal) (φ₁ := .f32) (φ₂ := .f32) dot_S4x32x384x8x64_S4x32x128x8x4x64_S4x32x8x384x128x4_4_5_2_24_013_013 none ((concatenate S4x32x384x8x64 2 [⟨S4x32x128x8x64, ((extractStridedSlice S4x32x128x8x64 ![0, 0, 0, 0, 0] X74 slices_S4x34x128x8x64_S4x32x128x8x64_0_0_0_0_0) : (⟨S4x32x128x8x64, .f32⟩ : BufTy).Contents (Elt Ideal))⟩, ⟨S4x32x128x8x64, ((extractStridedSlice S4x32x128x8x64 ![0, 1, 0, 0, 0] X74 slices_S4x34x128x8x64_S4x32x128x8x64_0_1_0_0_0) : (⟨S4x32x128x8x64, .f32⟩ : BufTy).Contents (Elt Ideal))⟩, ⟨S4x32x128x8x64, ((extractStridedSlice S4x32x128x8x64 ![0, 2, 0, 0, 0] X74 slices_S4x34x128x8x64_S4x32x128x8x64_0_2_0_0_0) : (⟨S4x32x128x8x64, .f32⟩ : BufTy).Contents (Elt Ideal))⟩] concatenates_S4x32x128x8x64_S4x32x128x8x64_S4x32x128x8x64_S4x32x384x8x64_d2 : (⟨S4x32x384x8x64, .f32⟩ : BufTy).Contents (Elt Ideal))) (shapeCast _ (concatenate S4x4096x32x64 3 [⟨S4x4096x32x32, (subf (mulf X27 (broadcastInDim S4x4096x32x32 ![0, 1, 2, 3] bcast_S1x4096x1x32_S4x4096x32x32_0_1_2_3 X24)) (mulf X28 (broadcastInDim S4x4096x32x32 ![0, 1, 2, 3] bcast_S1x4096x1x32_S4x4096x32x32_0_1_2_3 X26)))⟩, ⟨S4x4096x32x32, (addf (mulf X28 (broadcastInDim S4x4096x32x32 ![0, 1, 2, 3] bcast_S1x4096x1x32_S4x4096x32x32_0_1_2_3 X24)) (mulf X27 (broadcastInDim S4x4096x32x32 ![0, 1, 2, 3] bcast_S1x4096x1x32_S4x4096x32x32_0_1_2_3 X26)))⟩] concatenates_S4x4096x32x32_S4x4096x32x32_S4x4096x32x64_d3) shapeCasts_S4x4096x32x64_S4x32x128x8x4x64)) transposes_S4x32x8x384x128x4_S4x32x8x4x128x384_0_1_2_5_4_3) (broadcastInDim S4x32x8x4x128x384 ![] bcast_S_S4x32x8x4x128x384 (constant S_ .f32 0x3E000000#32))) (broadcastInDim S4x32x8x4x128x384 ![] bcast_S_S4x32x8x4x128x384 (constant S_ .f32 0xFF800000#32))

theorem v125_eq : res_main_v125 V0 = scoresOf (res_main_v24 V0) (res_main_v26 V0) (res_main_v27 V0) (res_main_v28 V0) (res_main_v74 V0) (res_main_v111 V0) := rfl

/-- The scores, over any key blocks and query halves. -/
theorem scores_gen (X24 : FVec Ideal S1x4096x1x32 .f32) (X26 : FVec Ideal S1x4096x1x32 .f32) (X27 : FVec Ideal S4x4096x32x32 .f32) (X28 : FVec Ideal S4x4096x32x32 .f32) (X74 : FVec Ideal S4x34x128x8x64 .f32) (X111 : IVec S32x384 32) (b : Fin 4) (n : Fin 32) (g : Fin 8) (e : Fin 4) (q : Fin 128) (t : Fin 384) :
    scoresOf X24 X26 X27 X28 X74 X111 (ix6 b n g e q t)
      = Scalar.select
      (IntOp.andi
        (IntOp.cmpi CmpIPredicate.sle
          (IntOp.absi (IntOp.subi (IntOp.subi (BitVec.ofNat 32 t.val) 128#32) (BitVec.ofNat 32 q.val))) 128#32)
        (IntOp.andi (IntOp.cmpi CmpIPredicate.sge (X111 (ix2 n t)) 0#32)
          (IntOp.cmpi CmpIPredicate.slt (X111 (ix2 n t)) 4096#32)))
      ((∑ x : Fin 32, pick X74 b n t g ⟨x.val, by omega⟩ *
              (X27 (ix4 b ⟨n.val * 128 + q.val, by omega⟩ ⟨g.val * 4 + e.val, by omega⟩ x) * X24 (ix4 0 ⟨n.val * 128 + q.val, by omega⟩ 0 x) -
                X28 (ix4 b ⟨n.val * 128 + q.val, by omega⟩ ⟨g.val * 4 + e.val, by omega⟩ x) * X26 (ix4 0 ⟨n.val * 128 + q.val, by omega⟩ 0 x)) +
          ∑ x : Fin 32, pick X74 b n t g ⟨32 + x.val, by omega⟩ *
              (X28 (ix4 b ⟨n.val * 128 + q.val, by omega⟩ ⟨g.val * 4 + e.val, by omega⟩ x) * X24 (ix4 0 ⟨n.val * 128 + q.val, by omega⟩ 0 x) +
                X27 (ix4 b ⟨n.val * 128 + q.val, by omega⟩ ⟨g.val * 4 + e.val, by omega⟩ x) * X26 (ix4 0 ⟨n.val * 128 + q.val, by omega⟩ 0 x))) *
        Ideal.ofBits FTy.f32 1040187392#32)
      (Ideal.ofBits FTy.f32 4286578688#32) := by
  unfold scoresOf
  unfold pick
  pointwise

/-- Where the mask holds, the row of the window is the row of the sequence. -/
theorem pick_keys (b : Fin 4) (n : Fin 32) (q : Nat) (t : Fin 384) (g : Fin 8) (x : Fin 64) (h : Sees n.val q t.val) :
    pick (res_main_v74 V0) b n t g x = rope (head (argA V0) b (row n.val t.val) 2048 g.val (by omega)) (row n.val t.val).val x := by
  have hw := window_row n q t.val t.isLt h
  have key : ∀ (n' : Fin 34) (r : Fin 128), n'.val * 128 + r.val = (row n.val t.val).val + 128 →
      (res_main_v74 V0 : FVec Ideal S4x34x128x8x64 .f32) (ix5 b n' r g x)
        = rope (head (argA V0) b (row n.val t.val) 2048 g.val (by omega)) (row n.val t.val).val x := fun n' r => v74_at V0 b n' r g x _
  generalize (res_main_v74 V0 : FVec Ideal S4x34x128x8x64 .f32) = X at key ⊢
  unfold pick
  split
  · exact key _ _ (by dsimp only; omega)
  · split
    · exact key _ _ (by dsimp only; omega)
    · exact key _ _ (by dsimp only; omega)

/-- Likewise for the values. -/
theorem pick_vals (b : Fin 4) (n : Fin 32) (q : Nat) (t : Fin 384) (g : Fin 8) (x : Fin 64) (h : Sees n.val q t.val) :
    pick (res_main_v80 V0) b n t g x = head (argA V0) b (row n.val t.val) 2560 g.val (by omega) x := by
  have hw := window_row n q t.val t.isLt h
  have key : ∀ (n' : Fin 34) (r : Fin 128), n'.val * 128 + r.val = (row n.val t.val).val + 128 →
      (res_main_v80 V0 : FVec Ideal S4x34x128x8x64 .f32) (ix5 b n' r g x)
        = head (argA V0) b (row n.val t.val) 2560 g.val (by omega) x := fun n' r => v80_at V0 b n' r g x _
  generalize (res_main_v80 V0 : FVec Ideal S4x34x128x8x64 .f32) = X at key ⊢
  unfold pick
  split
  · exact key _ _ (by dsimp only; omega)
  · split
    · exact key _ _ (by dsimp only; omega)
    · exact key _ _ (by dsimp only; omega)

/-- Rotated entries depend on the head through its number only. -/
theorem rope_congr (A : (⟨3, ![4, 4096, 3072]⟩ : Shape).Idx → EReal) (b : Fin 4) (s : Fin 4096) (o : Nat) {g g' : Nat} (h h')
    (e : g = g') (n : Nat) (d : Fin 64) : rope (head A b s o g h) n d = rope (head A b s o g' h') n d := by
  subst e; rfl

/-- The masked scores. -/
theorem v125_at (b : Fin 4) (n : Fin 32) (g : Fin 8) (e : Fin 4) (q : Fin 128) (t : Fin 384) :
    (res_main_v125 V0 : FVec Ideal S4x32x8x4x128x384 .f32) (ix6 b n g e q t) = score (argA V0) b n ⟨g.val * 4 + e.val, by omega⟩ q t := by
  rw [v125_eq, scores_gen]
  rw [near_dec, v111_at, inside_dec, andi_ite]
  unfold score
  change Scalar.select (if Sees n.val q.val t.val then 1#1 else 0#1) _ _ = _
  by_cases hm : Sees n.val q.val t.val
  swap
  · rw [if_neg hm, if_neg hm]
    exact (by simp [Ideal.ofBits, Ideal.ieee] : Ideal.ofBits .f32 0xFF800000#32 = ⊥)
  rw [if_pos hm, if_pos hm]
  have hg : (g.val * 4 + e.val) / 4 = g.val := by omega
  have hn : n.val * 128 + q.val = 128 * n.val + q.val := by omega
  refine (congrArg (· * Ideal.ofBits FTy.f32 1040187392#32) (?_ : (_ : EReal) + _ = _) : _ = _)
  refine Eq.trans ?_ (Fin.sum_univ_add (a := 32) (b := 32) _).symm
  refine congrArg₂ (· + ·) (Finset.sum_congr rfl fun x _ => ?_) (Finset.sum_congr rfl fun x _ => ?_)
  · rw [pick_keys V0 b n q.val t g _ hm, mul_comm, v27_at, v24_at, v28_at, v26_at]
    simp only [hg, hn]
    refine congrArg₂ (· * ·) ?_ (rope_congr _ _ _ _ _ _ hg.symm _ _)
    unfold rope
    rw [dif_pos (show (Fin.castAdd 32 x).val < 32 from x.isLt)]
    rfl
  · rw [pick_keys V0 b n q.val t g _ hm, mul_comm, v27_at, v24_at, v28_at, v26_at]
    simp only [hg, hn]
    refine congrArg₂ (· * ·) ?_ (rope_congr _ _ _ _ _ _ hg.symm _ _)
    have h1 : ¬ (Fin.natAdd 32 x).val < 32 := by change ¬ (32 + x.val < 32); omega
    have h2 : (Fin.natAdd 32 x).val - 32 = x.val := by change 32 + x.val - 32 = x.val; omega
    have h3 : (Fin.natAdd 32 x) = (⟨x.val + 32, by omega⟩ : Fin 64) := by apply Fin.ext; change 32 + x.val = x.val + 32; omega
    unfold rope
    rw [dif_neg h1]
    simp only [h2]
    exact congrArg₂ (· + ·) (congrArg₂ (· * ·) (congrArg (head _ _ _ _ _ _) h3.symm) rfl) rfl

/-- The maximum over a window's keys, as a fold. -/
theorem max_at (x : FVec Ideal S4x32x8x4x128x384 .f32) (b : Fin 4) (n : Fin 32) (g : Fin 8) (e : Fin 4) (q : Fin 128) :
    Host.reduce (FloatOps.maximumf (F := Ideal) (φ := .f32)) x (constant (F := Ideal) S_ .f32 0xFF800000#32) reducesTo_S4x32x8x4x128x384_S4x32x8x4x128_d5 h_S_ (ix5 b n g e q)
      = Finset.univ.fold max ⊥ (fun t : Fin 384 => x (ix6 b n g e q t)) := by
  rw [Host.reduce_eq_fold_single _ x _ _ (by decide)]
  have h1 : (constant (F := Ideal) S_ .f32 0xFF800000#32) (Shape.Idx.first h_S_) = ⊥ :=
    (by simp [Ideal.ofBits, Ideal.ieee] : Ideal.ofBits .f32 0xFF800000#32 = ⊥)
  rw [h1]
  refine congrArg (fun f => Finset.univ.fold max ⊥ f) (funext fun t => congrArg x (funext fun a => Fin.ext ?_))
  match a with
  | 0 => rfl
  | 1 => rfl
  | 2 => rfl
  | 3 => rfl
  | 4 => rfl
  | 5 => rfl

/-- The host operations read by `rowMax_gen`. -/
def maxOf (X125 : FVec Ideal S4x32x8x4x128x384 .f32) (X127 : FVec Ideal S1x1x8x4x1x1 .f32) : FVec Ideal S4x32x8x4x128x1 .f32 :=
  maximumf (broadcastInDim S4x32x8x4x128x1 ![0, 1, 2, 3, 4] bcast_S4x32x8x4x128_S4x32x8x4x128x1_0_1_2_3_4 (Host.reduce FloatOps.maximumf X125 (constant S_ .f32 0xFF800000#32) reducesTo_S4x32x8x4x128x384_S4x32x8x4x128_d5 h_S_)) (broadcastInDim S4x32x8x4x128x1 ![0, 1, 2, 3, 4, 5] bcast_S1x1x8x4x1x1_S4x32x8x4x128x1_0_1_2_3_4_5 X127)

theorem v131_eq : res_main_v131 V0 = maxOf (res_main_v125 V0) (res_main_v127 V0) := rfl

/-- A maximum of two broadcast arrays, read at an index. -/
theorem maxOf_at (Y : FVec Ideal S4x32x8x4x128 .f32) (X127 : FVec Ideal S1x1x8x4x1x1 .f32) (b : Fin 4) (n : Fin 32) (g : Fin 8) (e : Fin 4) (q : Fin 128) :
    maximumf (broadcastInDim S4x32x8x4x128x1 ![0, 1, 2, 3, 4] bcast_S4x32x8x4x128_S4x32x8x4x128x1_0_1_2_3_4 Y) (broadcastInDim S4x32x8x4x128x1 ![0, 1, 2, 3, 4, 5] bcast_S1x1x8x4x1x1_S4x32x8x4x128x1_0_1_2_3_4_5 X127) (ix6 b n g e q 0)
      = max (Y (ix5 b n g e q)) (X127 (ix6 0 0 g e 0 0)) := by
  pointwise

/-- The maximum with the sink, over any scores and sinks. -/
theorem rowMax_gen (X125 : FVec Ideal S4x32x8x4x128x384 .f32) (X127 : FVec Ideal S1x1x8x4x1x1 .f32) (b : Fin 4) (n : Fin 32) (g : Fin 8) (e : Fin 4) (q : Fin 128) :
    maxOf X125 X127 (ix6 b n g e q 0)
      = max (Finset.univ.fold max ⊥ (fun t : Fin 384 => X125 (ix6 b n g e q t))) (X127 (ix6 0 0 g e 0 0)) := by
  unfold maxOf
  rw [maxOf_at, max_at]

theorem v127_at (g : Fin 8) (e : Fin 4) :
    (res_main_v127 V0 : FVec Ideal S1x1x8x4x1x1 .f32) (ix6 0 0 g e 0 0) = argS V0 (ix1 ⟨g.val * 4 + e.val, by omega⟩) := by
  unfold res_main_v127 argS
  clean_types
  pointwise

/-- The maximum of a window's scores and the sink. -/
theorem v131_at (b : Fin 4) (n : Fin 32) (g : Fin 8) (e : Fin 4) (q : Fin 128) :
    (res_main_v131 V0 : FVec Ideal S4x32x8x4x128x1 .f32) (ix6 b n g e q 0)
      = rowMax (score (argA V0) b n ⟨g.val * 4 + e.val, by omega⟩ q) (argS V0 (ix1 ⟨g.val * 4 + e.val, by omega⟩)) := by
  rw [v131_eq, rowMax_gen]
  rw [v127_at]
  simp only [v125_at]
  rfl

/-- The host operations read by `exp_gen`. -/
def expOf (X125 : FVec Ideal S4x32x8x4x128x384 .f32) (X131 : FVec Ideal S4x32x8x4x128x1 .f32) : FVec Ideal S4x32x8x4x128x384 .f32 :=
  Host.exp (subf X125 (broadcastInDim S4x32x8x4x128x384 ![0, 1, 2, 3, 4, 5] bcast_S4x32x8x4x128x1_S4x32x8x4x128x384_0_1_2_3_4_5 X131))

theorem v134_eq : res_main_v134 V0 = expOf (res_main_v125 V0) (res_main_v131 V0) := rfl

/-- The exponentials, over any scores and maxima. -/
theorem exp_gen (X125 : FVec Ideal S4x32x8x4x128x384 .f32) (X131 : FVec Ideal S4x32x8x4x128x1 .f32) (b : Fin 4) (n : Fin 32) (g : Fin 8) (e : Fin 4) (q : Fin 128) (t : Fin 384) :
    expOf X125 X131 (ix6 b n g e q t)
      = Ideal.exp (X125 (ix6 b n g e q t) - X131 (ix6 b n g e q 0)) := by
  unfold expOf
  pointwise

theorem v134_at (b : Fin 4) (n : Fin 32) (g : Fin 8) (e : Fin 4) (q : Fin 128) (t : Fin 384) :
    (res_main_v134 V0 : FVec Ideal S4x32x8x4x128x384 .f32) (ix6 b n g e q t)
      = Ideal.exp (score (argA V0) b n ⟨g.val * 4 + e.val, by omega⟩ q t
          - rowMax (score (argA V0) b n ⟨g.val * 4 + e.val, by omega⟩ q) (argS V0 (ix1 ⟨g.val * 4 + e.val, by omega⟩))) := by
  rw [v134_eq, exp_gen]
  rw [v125_at, v131_at]

end

end Cert.ReferenceIdeal.Value
-- ==== Proof.Attn.RefOut.lean ====
module

public import proofs.«01_k».proof.Proof.Attn.RefScores
public import Idealize.ShloMosaic.Lib.Tactic.CleanTypes

@[expose] public section

set_option maxRecDepth 16384

/-! # The reference's result -/

namespace Cert.ReferenceIdeal.Value

open Idealize.ShloMosaic Idealize.SL.Sem Idealize.ShloMosaic.StableHlo Idealize.ShloMosaic.TcCoe
open Cert.ReferenceIdeal Cert.ReferenceIdeal.Gen Cert.Attn

noncomputable section

variable (V0 : Valuation τ sig (Elt Ideal))

/-- The host operations read by `out_gen`. -/
def outOf (X80 : FVec Ideal S4x34x128x8x64 .f32) (X127 : FVec Ideal S1x1x8x4x1x1 .f32) (X131 : FVec Ideal S4x32x8x4x128x1 .f32) (X134 : FVec Ideal S4x32x8x4x128x384 .f32) : FVec Ideal S4x4096x2048 .bf16 :=
  truncf .bf16 (shapeCast _ (transpose S4x32x128x8x4x64 [0, 1, 5, 2, 4, 3] (Host.dotGeneral (F := Ideal) (φ₁ := .f32) (φ₂ := .f32) dot_S4x32x384x8x64_S4x32x8x4x128x384_S4x32x8x64x4x128_2_5_4_34_013_012 none ((concatenate S4x32x384x8x64 2 [⟨S4x32x128x8x64, ((extractStridedSlice S4x32x128x8x64 ![0, 0, 0, 0, 0] X80 slices_S4x34x128x8x64_S4x32x128x8x64_0_0_0_0_0) : (⟨S4x32x128x8x64, .f32⟩ : BufTy).Contents (Elt Ideal))⟩, ⟨S4x32x128x8x64, ((extractStridedSlice S4x32x128x8x64 ![0, 1, 0, 0, 0] X80 slices_S4x34x128x8x64_S4x32x128x8x64_0_1_0_0_0) : (⟨S4x32x128x8x64, .f32⟩ : BufTy).Contents (Elt Ideal))⟩, ⟨S4x32x128x8x64, ((extractStridedSlice S4x32x128x8x64 ![0, 2, 0, 0, 0] X80 slices_S4x34x128x8x64_S4x32x128x8x64_0_2_0_0_0) : (⟨S4x32x128x8x64, .f32⟩ : BufTy).Contents (Elt Ideal))⟩] concatenates_S4x32x128x8x64_S4x32x128x8x64_S4x32x128x8x64_S4x32x384x8x64_d2 : (⟨S4x32x384x8x64, .f32⟩ : BufTy).Contents (Elt Ideal))) (Host.divf X134 (broadcastInDim S4x32x8x4x128x384 ![0, 1, 2, 3, 4, 5] bcast_S4x32x8x4x128x1_S4x32x8x4x128x384_0_1_2_3_4_5 (addf (broadcastInDim S4x32x8x4x128x1 ![0, 1, 2, 3, 4] bcast_S4x32x8x4x128_S4x32x8x4x128x1_0_1_2_3_4 (Host.reduceAdd X134 (constant S_ .f32 0x00000000#32) reducesTo_S4x32x8x4x128x384_S4x32x8x4x128_d5 h_S_)) (Host.exp (subf (broadcastInDim S4x32x8x4x128x1 ![0, 1, 2, 3, 4, 5] bcast_S1x1x8x4x1x1_S4x32x8x4x128x1_0_1_2_3_4_5 X127) X131)))))) transposes_S4x32x8x64x4x128_S4x32x128x8x4x64_0_1_5_2_4_3) shapeCasts_S4x32x128x8x4x64_S4x4096x2048) bitsLt_bf16_f32

/-- The sum over a window's keys. -/
theorem sum_at (x : FVec Ideal S4x32x8x4x128x384 .f32) (b : Fin 4) (n : Fin 32) (g : Fin 8) (e : Fin 4) (q : Fin 128) :
    Ideal.hostReduceAdd reducesTo_S4x32x8x4x128x384_S4x32x8x4x128_d5 x 0 (ix5 b n g e q) = ∑ t : Fin 384, x (ix6 b n g e q t) := by
  rw [Ideal.hostReduceAdd_single _ (by decide), zero_add]
  refine Finset.sum_congr rfl fun t _ => congrArg x (funext fun a => Fin.ext ?_)
  match a with
  | 0 => rfl
  | 1 => rfl
  | 2 => rfl
  | 3 => rfl
  | 4 => rfl
  | 5 => rfl

/-- The reference's last operations, over any exponentials, maxima, sinks and values. -/
theorem out_gen (X80 : FVec Ideal S4x34x128x8x64 .f32) (X127 : FVec Ideal S1x1x8x4x1x1 .f32) (X131 : FVec Ideal S4x32x8x4x128x1 .f32) (X134 : FVec Ideal S4x32x8x4x128x384 .f32) (b : Fin 4) (s : Fin 4096) (l : Fin 2048) :
    outOf X80 X127 X131 X134 (ix3 b s l)
      = ∑ t : Fin 384, Ideal.div (X134 (ix6 b ⟨s.val / 128, by omega⟩ ⟨l.val / 256, by omega⟩ ⟨l.val / 64 % 4, by omega⟩ ⟨s.val % 128, by omega⟩ t))
          ((∑ t' : Fin 384, X134 (ix6 b ⟨s.val / 128, by omega⟩ ⟨l.val / 256, by omega⟩ ⟨l.val / 64 % 4, by omega⟩ ⟨s.val % 128, by omega⟩ t'))
            + Ideal.exp (X127 (ix6 0 0 ⟨l.val / 256, by omega⟩ ⟨l.val / 64 % 4, by omega⟩ 0 0) - X131 (ix6 b ⟨s.val / 128, by omega⟩ ⟨l.val / 256, by omega⟩ ⟨l.val / 64 % 4, by omega⟩ ⟨s.val % 128, by omega⟩ 0)))
          * pick X80 b ⟨s.val / 128, by omega⟩ t ⟨l.val / 256, by omega⟩ ⟨l.val % 64, by omega⟩ := by
  unfold outOf
  unfold pick
  pointwise
  refine Finset.sum_congr rfl fun t _ => (mul_comm _ _).trans (congrArg₂ (· * ·) (congrArg (Ideal.div _) (congrArg₂ (· + ·) ?_ rfl)) rfl)
  exact sum_at X134 b ⟨s.val / 128, by omega⟩ ⟨l.val / 256, by omega⟩ ⟨l.val / 64 % 4, by omega⟩ ⟨s.val % 128, by omega⟩

/-- The reference's result, as the attention row its index names. -/
theorem out_at (b : Fin 4) (s : Fin 4096) (l : Fin 2048) :
    outOf (res_main_v80 V0) (res_main_v127 V0) (res_main_v131 V0) (res_main_v134 V0) (ix3 b s l)
      = rowEach (score (argA V0) b ⟨s.val / 128, by omega⟩ ⟨l.val / 64, by omega⟩ ⟨s.val % 128, by omega⟩)
          (argS V0 (ix1 ⟨l.val / 64, by omega⟩))
          (fun t => pick (res_main_v80 V0) b ⟨s.val / 128, by omega⟩ t ⟨l.val / 256, by omega⟩ ⟨l.val % 64, by omega⟩) := by
  have e : (l.val / 256) * 4 + l.val / 64 % 4 = l.val / 64 := by omega
  rw [out_gen, v127_at, v131_at]
  simp only [v134_at, e]
  rfl

end

end Cert.ReferenceIdeal.Value
-- ==== Proof.Attn.Finite.lean ====
module

public import proofs.«01_k».proof.Pre_finite
public import proofs.«01_k».proof.Proof.Attn.Spec
public import Idealize.ShloMosaic.Lib.Pointwise
public import Idealize.ShloMosaic.Lib.Tactic.CleanTypes

@[expose] public section

set_option maxRecDepth 16384

/-! # Finite inputs have scores below `⊤` -/

namespace Cert.Attn

open Idealize.ShloMosaic

noncomputable section

/-- The shape facts of the precondition. -/
theorem preFacts : Cert.Pre_finite.Facts where
  shapeCasts_S32_S1x32 := by decide
  bcast_S1x32_S96x32_0_1 := by decide
  shapeCasts_S96x32_S3072 := by decide
  bcast_S3072_S1x1x3072_2 := by decide
  bitsLt_bf16_f32 := by decide
  bcast_S_S4x4096x3072 := by decide
  bcast_S_S1x1x3072 := by decide
  bcast_S1x1x3072_S4x4096x3072_0_1_2 := by decide

theorem real_of_abs (x : EReal) (h : max x (-x) < ⊤) : ∃ r : ℝ, x = r := by
  induction x using EReal.rec with
  | bot => simp at h
  | coe r => exact ⟨r, rfl⟩
  | top => simp at h

/-- The precondition says that every entry and every sink logit is real. -/
theorem pre_at [Cert.Pre_finite.Facts] (A : (⟨3, ![4, 4096, 3072]⟩ : Shape).Idx → EReal) (S : (⟨1, ![32]⟩ : Shape).Idx → EReal)
    (h : Cert.Pre_finite.fn (F := Ideal) A S = fun _ => 1#1) (b : Fin 4) (s : Fin 4096) (l : Fin 3072) :
    (∃ r : ℝ, A (ix3 b s l) = r) ∧ ∃ r : ℝ, S (ix1 ⟨l.val % 32, by omega⟩) = r := by
  have h' := congrFun h (ix3 b s l)
  unfold Cert.Pre_finite.fn at h'
  pointwise at h'
  have top : Ideal.ofBits FTy.f32 2139095040#32 = ⊤ := by simp [Ideal.ofBits, Ideal.ieee]
  rw [top] at h'
  have both : ∀ p q : Bool, IntOp.andi (BitVec.ofBool p) (BitVec.ofBool q) = 1#1 → p = true ∧ q = true := by decide
  obtain ⟨h1, h2⟩ := both _ _ h'
  exact ⟨real_of_abs _ (of_decide_eq_true h1), real_of_abs _ (of_decide_eq_true h2)⟩

/-- A real number, among the extended reals. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsReal.cos {x : EReal} (hx : IsReal x) : IsReal (Ideal.cos x) := by
  obtain ⟨a, rfl⟩ := hx; exact ⟨Real.cos a, rfl⟩

theorem IsReal.sin {x : EReal} (hx : IsReal x) : IsReal (Ideal.sin x) := by
  obtain ⟨a, rfl⟩ := hx; exact ⟨Real.sin a, rfl⟩

theorem IsReal.pow {x y : EReal} (hx : IsReal x) (hy : IsReal y) : IsReal (Ideal.pow x y) := by
  obtain ⟨a, rfl⟩ := hx; obtain ⟨b, rfl⟩ := hy; exact ⟨Real.rpow a b, rfl⟩

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

theorem isReal_int (n : Nat) : IsReal (FloatOps.sitofp (F := Ideal) FTy.f32 (BitVec.ofNat 32 n)) := ⟨_, rfl⟩

theorem isReal_base : IsReal (Ideal.ofBits FTy.f32 1176256512#32) :=
  ⟨10000, by simp [Ideal.ofBits, Ideal.ieee, -EReal.coe_mul]; norm_num⟩

theorem isReal_two : IsReal (Ideal.ofBits FTy.f32 1073741824#32) :=
  ⟨2, by simp [Ideal.ofBits, Ideal.ieee, -EReal.coe_mul]; norm_num⟩

theorem width_eq : Ideal.ofBits FTy.f32 1115684864#32 = ((64 : ℝ) : EReal) := by
  simp [Ideal.ofBits, Ideal.ieee, -EReal.coe_mul]; norm_num

/-- Angles are real. -/
theorem isReal_angle (s i : Nat) : IsReal (angle s i) := by
  unfold angle
  refine (isReal_int s).mul (isReal_base.pow ?_)
  rw [width_eq]
  unfold Ideal.div
  rw [if_neg (by exact_mod_cast (by norm_num : (64 : ℝ) ≠ 0))]
  exact (isReal_two.mul (isReal_int i)).neg.mul ⟨(64 : ℝ)⁻¹, (EReal.coe_inv (64 : ℝ)).symm⟩

/-- Rotating real lanes leaves them real. -/
theorem isReal_rope (x : Fin 64 → EReal) (hx : ∀ e, IsReal (x e)) (s : Nat) (d : Fin 64) : IsReal (rope x s d) := by
  unfold rope
  split
  · exact ((hx _).mul (isReal_angle _ _).cos).sub ((hx _).mul (isReal_angle _ _).sin)
  · exact ((hx _).mul (isReal_angle _ _).cos).add ((hx _).mul (isReal_angle _ _).sin)

/-- Over real entries no score is `⊤`. -/
theorem score_ne_top (A : (⟨3, ![4, 4096, 3072]⟩ : Shape).Idx → EReal) (hA : ∀ b s l, IsReal (A (ix3 b s l))) (b : Fin 4)
    (n h : Fin 32) (q : Fin 128) (t : Fin 384) : score A b n h q t ≠ ⊤ := by
  unfold score
  split
  · refine (IsReal.mul (IsReal.sum _ _ fun e _ => (isReal_rope _ (fun e => hA _ _ _) _ _).mul (isReal_rope _ (fun e => hA _ _ _) _ _)) ?_).ne_top
    rw [eighth_eq]; exact ⟨_, rfl⟩
  · exact bot_ne_top

end

end Cert.Attn
-- ==== Proof.Attn.Equal.lean ====
module

public import proofs.«01_k».proof.Proof.Attn.KernelRun
public import proofs.«01_k».proof.Proof.Attn.RefOut
public import proofs.«01_k».proof.Proof.Attn.Finite
public import proofs.«01_k».proof.Proof.Attn.Math

@[expose] public section

set_option maxRecDepth 16384

/-! # The kernel's result and the reference's are one array -/

namespace Cert.Attn

open Idealize.ShloMosaic Idealize.SL.Sem Idealize.ShloMosaic.TcCoe

noncomputable section

/-- Over real entries and sinks, dividing once after the sum over the values is dividing every weight; the values at
    keys outside the window do not matter. -/
theorem rows_eq (A : (⟨3, ![4, 4096, 3072]⟩ : Shape).Idx → EReal) (S : EReal) (hA : ∀ b s l, IsReal (A (ix3 b s l))) (hS : IsReal S)
    (b : Fin 4) (n h : Fin 32) (q : Fin 128) (d : Fin 64) (v : Fin 384 → EReal)
    (hv : ∀ t : Fin 384, Sees n.val q.val t.val → v t = head A b (row n.val t.val) 2560 (h.val / 4) (by omega) d) :
    rowOnce (score A b n h q) S (Cert.KernelIdeal.Gen.kval A b n h d) = rowEach (score A b n h q) S v := by
  refine rowOnce_eq_rowEach _ _ _ _ (fun t => score_ne_top A hA b n h q t) hS.ne_top hS.ne_bot fun t => ?_
  by_cases hm : Sees n.val q.val t.val
  · refine Or.inr ?_
    rw [hv t hm]
    unfold Cert.KernelIdeal.Gen.kval
    exact congrArg (fun s => head A b s 2560 (h.val / 4) (by omega) d)
      (Fin.ext (Cert.KernelIdeal.Gen.krow_of_sees n q.val t.val t.isLt hm))
  · exact Or.inl (if_neg hm)

open Cert.ReferenceIdeal.Value in
/-- From equal finite arguments the reference computes the kernel's result. -/
theorem results_eq [Cert.Pre_finite.Facts] (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (hp : Cert.Pre_finite.fn (F := Ideal) (Cert.KernelIdeal.Gen.argA m c) (Cert.KernelIdeal.Gen.argS m c) = fun _ => 1#1)
    (hA : argA V0 = Cert.KernelIdeal.Gen.argA m c) (hS : argS V0 = Cert.KernelIdeal.Gen.argS m c) :
    outOf (res_main_v80 V0) (res_main_v127 V0) (res_main_v131 V0) (res_main_v134 V0) = Cert.KernelIdeal.Gen.result m c := by
  have realA : ∀ b s l, IsReal (Cert.KernelIdeal.Gen.argA m c (ix3 b s l)) := fun b s l => (pre_at _ _ hp b s l).1
  have realS : ∀ h : Fin 32, IsReal (Cert.KernelIdeal.Gen.argS m c (ix1 h)) := fun h => by
    have e := (pre_at _ _ hp 0 0 ⟨h.val, by omega⟩).2
    have e' : (⟨h.val % 32, by omega⟩ : Fin 32) = h := Fin.ext (by dsimp only; omega)
    rw [e'] at e
    exact e
  funext y
  obtain ⟨b, s, l, rfl⟩ : ∃ (b : Fin 4) (s : Fin 4096) (l : Fin 2048), y = ix3 b s l := ⟨y 0, y 1, y 2, eq_ix3 y⟩
  have hl : l.val < 2048 := l.isLt
  rw [out_at, hA, hS]
  refine ((rows_eq _ _ realA (realS _) b ⟨s.val / 128, by omega⟩ ⟨l.val / 64, by omega⟩ ⟨s.val % 128, by omega⟩ ⟨l.val % 64, by omega⟩ _ fun t hm => ?_).symm : _ = _)
  have hv := pick_vals V0 b ⟨s.val / 128, by omega⟩ (s.val % 128) t ⟨l.val / 256, by omega⟩ ⟨l.val % 64, by omega⟩ hm
  rw [hA] at hv
  refine hv.trans ?_
  unfold head
  refine congrArg _ (congrArg (ix3 b _) (Fin.ext ?_))
  dsimp only
  omega

end

end Cert.Attn
-- ==== Proof.Proj.Qkv.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Claim
public import Idealize.ShloMosaic.Lib.Tactic.CleanTypes

@[expose] public section

set_option maxRecDepth 16384

/-! # The projection to queries, keys and values

Blocks of 1024 rows by 1024 columns, each one product over all 2048 channels, put together into the whole product. -/

namespace Cert.Kernel2Ideal.Gen

open Idealize.ShloMosaic Idealize.SL.Sem Idealize.ShloMosaic.TcCoe
open Cert.Kernel2Ideal

noncomputable section

/-- The offsets of a whole block are zero. -/
theorem zero_offsets : (![0, 0] : Fin 2 → Nat) = fun _ => 0 := funext fun a => by fin_cases a <;> rfl

/-- Row `r` of the block at `x0` times column `l` of the block at `x1`. -/
theorem out_at (x0 : Vec Ideal S1024x2048 .bf16) (x1 : Vec Ideal S2048x1024 .bf16) (r l : Fin 1024) :
    out0_2 x0 x1 (ix2 r l) = ∑ k : Fin 2048, (x0 (ix2 r k) * x1 (ix2 k l) : EReal) := by
  unfold out0_2 r0_0 r0_1 r0_2
  rw [View.canon_unit_zero zero_offsets]
  simp only [View.ld_unit_zero (S := S1024x2048) zero_offsets, View.ld_unit_zero (S := S2048x1024) zero_offsets]
  unfold_payloads
  clean_types
  pointwise

variable (m : (ℓ : Loc nD τ sig) → Buf (Elt Ideal) ℓ) (c : Dev nD) (t : Fin cfg0.N)

/-- The column block of a grid point. -/
def colOf (t : Fin cfg0.N) : Fin 3 := ⟨(grid0.coords t 0).val, (grid0.coords t 0).isLt⟩

/-- The row block of a grid point. -/
def rowOf (t : Fin cfg0.N) : Fin 16 := ⟨(grid0.coords t 1).val, (grid0.coords t 1).isLt⟩

/-- The block of rows read at a grid point. -/
theorem idx0_0 : ∀ t : Fin cfg0.N, win0_0.index t = ![(rowOf t).val, 0] := by decide +kernel
/-- The block of columns read at a grid point. -/
theorem idx0_1 : ∀ t : Fin cfg0.N, win0_1.index t = ![0, (colOf t).val] := by decide +kernel
/-- The block written at a grid point. -/
theorem idx0_2 : ∀ t : Fin cfg0.N, win0_2.index t = ![(rowOf t).val, (colOf t).val] := by decide +kernel

/-- The rows the kernel is given. -/
def argH : (⟨2, ![16384, 2048]⟩ : Shape).Idx → EReal := m ((c.tc : Thread nD τ).loc main_arg0)

/-- The weights the kernel is given. -/
def argW : (⟨3, ![1, 2048, 3072]⟩ : Shape).Idx → EReal := m ((c.tc : Thread nD τ).loc main_arg1)

/-- The block of rows at a grid point, placed in the array. -/
theorem blk0 (r : Fin 1024) (k : Fin 2048) : (iblk m c 0 t : Vec Ideal S1024x2048 .bf16) (ix2 r k)
    = argH m c (ix2 ⟨1024 * (rowOf t).val + r.val, by omega⟩ k) := by
  unfold argH
  blk_ext [iblk, V_main_arg0, idx0_0 t]

/-- The host's cast of the weights keeps every weight. -/
theorem weights (k : Fin 2048) (l : Fin 3072) : (V m c main_v1 : Vec Ideal S2048x3072 .bf16) (ix2 k l) = argW m c (ix3 0 k l) := by
  unfold argW
  entry_read
  clean_types
  pointwise
  try rfl

/-- The block of columns at a grid point, placed in the array. -/
theorem blk1 (k : Fin 2048) (l : Fin 1024) : (iblk m c 1 t : Vec Ideal S2048x1024 .bf16) (ix2 k l)
    = argW m c (ix3 0 k ⟨1024 * (colOf t).val + l.val, by omega⟩) := by
  refine Eq.trans ?_ (weights m c k ⟨1024 * (colOf t).val + l.val, by omega⟩)
  blk_ext [iblk, idx0_1 t]

/-- The whole product, entry by entry. -/
def result (y : (⟨2, ![16384, 3072]⟩ : Shape).Idx) : EReal :=
  ∑ k : Fin 2048, argH m c (ix2 (y 0) k) * argW m c (ix3 0 k (y 1))

/-- What a grid point writes is its block of the whole product. -/
theorem outs_at (y : S1024x1024.Idx) :
    out0_2 (iblk m c 0 t) (iblk m c 1 t) y
      = result m c (ix2 ⟨1024 * (rowOf t).val + (y 0).val, by have h : (y 0).val < 1024 := (y 0).isLt; omega⟩
          ⟨1024 * (colOf t).val + (y 1).val, by have h : (y 1).val < 1024 := (y 1).isLt; omega⟩) := by
  obtain ⟨r, l, rfl⟩ : ∃ r l : Fin 1024, y = ix2 r l := ⟨y 0, y 1, eq_ix2 y⟩
  rw [out_at]
  unfold result
  exact Finset.sum_congr rfl fun k _ => congrArg₂ (· * ·) (blk0 m c t r k) (blk1 m c t k l)

/-- The result array after the run. -/
theorem final : (dats m 0 c).arrAt 2 cfg0.N = result m c := by
  refine (dats m 0 c).arrAt_eq_of_covers 2 _ (by decide +kernel) fun t hf y => ?_
  blk_simp
  refine (congrFun (after0_2 m c t) y).trans ((outs_at m c t y).trans (congrArg (result m c) ?_))
  blk_ext [idx0_2 t]

/-- The reference's product, entry by entry. -/
theorem ref_eq (a0 : Vec Ideal Cert.Reference2Ideal.S16384x2048 .bf16) (a1 : Vec Ideal Cert.Reference2Ideal.S1x2048x3072 .f32)
    (h0 : a0 = argH m c) (h1 : a1 = argW m c) :
    (truncf .bf16 (Host.dotGeneral (F := Ideal) (φ₁ := .f32) (φ₂ := .f32) Cert.Reference2Ideal.dot_S16384x2048_S2048x3072_S16384x3072_1_0_0_1_n_n none
      (extf .f32 a0 Cert.Reference2Ideal.Facts₀.bitsLt_bf16_f32)
      (shapeCast _ a1 Cert.Reference2Ideal.Facts₀.shapeCasts_S1x2048x3072_S2048x3072)) Cert.Reference2Ideal.Facts₀.bitsLt_bf16_f32 :
        Vec Ideal Cert.Reference2Ideal.S16384x3072 .bf16) = result m c := by
  subst h0 h1
  funext y
  unfold result
  clean_types
  pointwise

end

end Cert.Kernel2Ideal.Gen
-- ==== Proof.Proj.Out.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Claim
public import Idealize.ShloMosaic.Lib.Tactic.CleanTypes

@[expose] public section

set_option maxRecDepth 16384

/-! # The output projection of the attention, added to its residual

Blocks of 1024 rows by 1024 columns, each one product over all 2048 channels, added to a block of the residual. -/

namespace Cert.Kernel3Ideal.Gen

open Idealize.ShloMosaic Idealize.SL.Sem Idealize.ShloMosaic.TcCoe
open Cert.Kernel3Ideal

noncomputable section

/-- The offsets of a whole block are zero. -/
theorem zero_offsets : (![0, 0] : Fin 2 → Nat) = fun _ => 0 := funext fun a => by fin_cases a <;> rfl

/-- Row `r` of the block at `x0` times column `l` of the block at `x1`, added to the entry of the block at `x2`. -/
theorem out_at (x0 : Vec Ideal S1024x2048 .bf16) (x1 : Vec Ideal S2048x1024 .bf16) (x2 : Vec Ideal S1024x1024 .f32) (r l : Fin 1024) :
    out0_3 x0 x1 x2 (ix2 r l) = (x2 (ix2 r l) + ∑ k : Fin 2048, (x0 (ix2 r k) * x1 (ix2 k l) : EReal) : EReal) := by
  unfold out0_3 r0_0 r0_1 r0_2
  rw [View.canon_unit_zero zero_offsets]
  simp only [View.ld_unit_zero (S := S1024x2048) zero_offsets, View.ld_unit_zero (S := S1024x1024) zero_offsets, View.ld_unit_zero (S := S2048x1024) zero_offsets]
  unfold_payloads
  clean_types
  pointwise

variable (m : (ℓ : Loc nD τ sig) → Buf (Elt Ideal) ℓ) (c : Dev nD) (t : Fin cfg0.N)

/-- The column block of a grid point. -/
def colOf (t : Fin cfg0.N) : Fin 2 := ⟨(grid0.coords t 0).val, (grid0.coords t 0).isLt⟩

/-- The row block of a grid point. -/
def rowOf (t : Fin cfg0.N) : Fin 16 := ⟨(grid0.coords t 1).val, (grid0.coords t 1).isLt⟩

/-- The block of rows read at a grid point. -/
theorem idx0_0 : ∀ t : Fin cfg0.N, win0_0.index t = ![(rowOf t).val, 0] := by decide +kernel
/-- The block of columns read at a grid point. -/
theorem idx0_1 : ∀ t : Fin cfg0.N, win0_1.index t = ![0, (colOf t).val] := by decide +kernel
/-- The block of the residual read at a grid point. -/
theorem idx0_2 : ∀ t : Fin cfg0.N, win0_2.index t = ![(rowOf t).val, (colOf t).val] := by decide +kernel
/-- The block written at a grid point. -/
theorem idx0_3 : ∀ t : Fin cfg0.N, win0_3.index t = ![(rowOf t).val, (colOf t).val] := by decide +kernel

/-- The rows the kernel is given. -/
def argH : (⟨2, ![16384, 2048]⟩ : Shape).Idx → EReal := m ((c.tc : Thread nD τ).loc main_arg0)

/-- The weights the kernel is given. -/
def argW : (⟨3, ![1, 2048, 2048]⟩ : Shape).Idx → EReal := m ((c.tc : Thread nD τ).loc main_arg1)

/-- The residual the kernel is given. -/
def argX : (⟨2, ![16384, 2048]⟩ : Shape).Idx → EReal := m ((c.tc : Thread nD τ).loc main_arg2)

/-- The block of rows at a grid point, placed in the array. -/
theorem blk0 (r : Fin 1024) (k : Fin 2048) : (iblk m c 0 t : Vec Ideal S1024x2048 .bf16) (ix2 r k)
    = argH m c (ix2 ⟨1024 * (rowOf t).val + r.val, by omega⟩ k) := by
  unfold argH
  blk_ext [iblk, V_main_arg0, idx0_0 t]

/-- The host's cast of the weights keeps every weight. -/
theorem weights (k : Fin 2048) (l : Fin 2048) : (V m c main_v1 : Vec Ideal S2048x2048 .bf16) (ix2 k l) = argW m c (ix3 0 k l) := by
  unfold argW
  entry_read
  clean_types
  pointwise
  try rfl

/-- The block of columns at a grid point, placed in the array. -/
theorem blk1 (k : Fin 2048) (l : Fin 1024) : (iblk m c 1 t : Vec Ideal S2048x1024 .bf16) (ix2 k l)
    = argW m c (ix3 0 k ⟨1024 * (colOf t).val + l.val, by omega⟩) := by
  refine Eq.trans ?_ (weights m c k ⟨1024 * (colOf t).val + l.val, by omega⟩)
  blk_ext [iblk, idx0_1 t]

/-- The block of the residual at a grid point, placed in the array. -/
theorem blk2 (r l : Fin 1024) : (iblk m c 2 t : Vec Ideal S1024x1024 .f32) (ix2 r l)
    = argX m c (ix2 ⟨1024 * (rowOf t).val + r.val, by omega⟩ ⟨1024 * (colOf t).val + l.val, by omega⟩) := by
  unfold argX
  blk_ext [iblk, V_main_arg2, idx0_2 t]

/-- The residual added to the whole product, entry by entry. -/
def result (y : (⟨2, ![16384, 2048]⟩ : Shape).Idx) : EReal :=
  argX m c (ix2 (y 0) (y 1)) + ∑ k : Fin 2048, argH m c (ix2 (y 0) k) * argW m c (ix3 0 k (y 1))

/-- What a grid point writes is its block of the residual added to the whole product. -/
theorem outs_at (y : S1024x1024.Idx) :
    out0_3 (iblk m c 0 t) (iblk m c 1 t) (iblk m c 2 t) y
      = result m c (ix2 ⟨1024 * (rowOf t).val + (y 0).val, by have h : (y 0).val < 1024 := (y 0).isLt; omega⟩
          ⟨1024 * (colOf t).val + (y 1).val, by have h : (y 1).val < 1024 := (y 1).isLt; omega⟩) := by
  obtain ⟨r, l, rfl⟩ : ∃ r l : Fin 1024, y = ix2 r l := ⟨y 0, y 1, eq_ix2 y⟩
  rw [out_at]
  unfold result
  exact congrArg₂ (· + ·) (blk2 m c t r l) (Finset.sum_congr rfl fun k _ => congrArg₂ (· * ·) (blk0 m c t r k) (blk1 m c t k l))

/-- The result array after the run. -/
theorem final : (dats m 0 c).arrAt 3 cfg0.N = result m c := by
  refine (dats m 0 c).arrAt_eq_of_covers 3 _ (by decide +kernel) fun t hf y => ?_
  blk_simp
  refine (congrFun (after0_3 m c t) y).trans ((outs_at m c t y).trans (congrArg (result m c) ?_))
  blk_ext [idx0_3 t]

/-- The reference's residual added to its product, entry by entry. -/
theorem ref_eq (a0 : Vec Ideal Cert.Reference3Ideal.S16384x2048 .bf16) (a1 : Vec Ideal Cert.Reference3Ideal.S1x2048x2048 .f32)
    (a2 : Vec Ideal Cert.Reference3Ideal.S16384x2048 .f32)
    (h0 : a0 = argH m c) (h1 : a1 = argW m c) (h2 : a2 = argX m c) :
    (addf (φ := .f32) a2 (Host.dotGeneral (F := Ideal) (φ₁ := .f32) (φ₂ := .f32) Cert.Reference3Ideal.dot_S16384x2048_S2048x2048_S16384x2048_1_0_0_1_n_n none
      (extf .f32 a0 Cert.Reference3Ideal.Facts₀.bitsLt_bf16_f32)
      (shapeCast _ a1 Cert.Reference3Ideal.Facts₀.shapeCasts_S1x2048x2048_S2048x2048)) :
        Vec Ideal Cert.Reference3Ideal.S16384x2048 .f32) = result m c := by
  subst h0 h1 h2
  funext y
  unfold result
  clean_types
  pointwise

end

end Cert.Kernel3Ideal.Gen
-- ==== Proof.Fourier.Body.lean ====
module

public import proofs.«01_k».proof.Proof.Gen.Kernel4Ideal.Value
public import Idealize.ShloMosaic.Lib.Pipeline.ValueKit
public import Idealize.ShloMosaic.Lib.Claim
public import Idealize.ShloMosaic.Lib.WholeRead
public import Idealize.ShloMosaic.Lib.Tactic.CleanTypes

@[expose] public section

set_option maxRecDepth 16384

/-! # The last step of the Fourier mixing, one grid point

The body takes eight rows of the first step's result, transforms each over its 64 positions by one product with the
table, keeps the eight results one under the other in a scratch buffer, multiplies that by the weights and adds each
piece to its rows of the residual. -/

namespace Cert.Kernel4Ideal.Gen

open Idealize.ShloMosaic Idealize.SL.Sem Idealize.ShloMosaic.TcCoe
open Cert.Kernel4Ideal

noncomputable section

/-- One transformed entry: row `k` of the table times column `d` of the two stacked halves of row `r`. -/
def yAt (x0 : Vec Ideal S64x128 .bf16) (x2 : Vec Ideal S1x2x8x64x2048 .bf16) (r : Fin 8) (k : Fin 64) (d : Fin 2048) : EReal :=
  ∑ s : Fin 64, x0 (ix2 k ⟨s.val, by omega⟩) * x2 (ix5 0 0 r s d) + ∑ s : Fin 64, x0 (ix2 k ⟨64 + s.val, by omega⟩) * x2 (ix5 0 1 r s d)

/-- The scratch buffer: the eight transforms one under the other. -/
def yAll (x0 : Vec Ideal S64x128 .bf16) (x2 : Vec Ideal S1x2x8x64x2048 .bf16) (y : S512x2048.Idx) : EReal :=
  have h : (y 0).val < 512 := (y 0).isLt
  yAt x0 x2 ⟨(y 0).val / 64, by omega⟩ ⟨(y 0).val % 64, by omega⟩ (y 1)

/-- The product the body stores in the scratch buffer, at an index. -/
theorem pay_at (g0 g1 : Vec Ideal S1x1x1x64x2048 .bf16) (mm : Vec Ideal S64x128 .bf16) (k : Fin 64) (d : Fin 2048) :
    k0_pay1 g0 g1 mm (ix2 k d) = (∑ s : Fin 64, mm (ix2 k ⟨s.val, by omega⟩) * g0 (ix5 0 0 0 s d)
      + ∑ s : Fin 64, mm (ix2 k ⟨64 + s.val, by omega⟩) * g1 (ix5 0 0 0 s d) : EReal) := by
  unfold_payloads
  clean_types
  pointwise

/-- The piece stored for row 0, at an index. -/
theorem out_at0 (Y : Vec Ideal S512x2048 .bf16) (w : Vec Ideal S2048x2048 .bf16) (x : Vec Ideal S1x64x1x2048 .f32) (k : Fin 64) (d : Fin 2048) :
    k0_pay13 (k0_pay12 Y w x) (ix4 0 k 0 d) = (x (ix4 0 k 0 d) + ∑ e : Fin 2048, Y (ix2 ⟨k.val, by omega⟩ e) * w (ix2 e d) : EReal) := by
  unfold_payloads
  clean_types
  pointwise

/-- The piece stored for row 1, at an index. -/
theorem out_at1 (Y : Vec Ideal S512x2048 .bf16) (w : Vec Ideal S2048x2048 .bf16) (x : Vec Ideal S1x64x1x2048 .f32) (k : Fin 64) (d : Fin 2048) :
    k0_pay14 (k0_pay11 Y w) x (ix4 0 k 0 d) = (x (ix4 0 k 0 d) + ∑ e : Fin 2048, Y (ix2 ⟨64 + k.val, by omega⟩ e) * w (ix2 e d) : EReal) := by
  unfold_payloads
  clean_types
  pointwise

/-- The piece stored for row 2, at an index. -/
theorem out_at2 (Y : Vec Ideal S512x2048 .bf16) (w : Vec Ideal S2048x2048 .bf16) (x : Vec Ideal S1x64x1x2048 .f32) (k : Fin 64) (d : Fin 2048) :
    k0_pay15 (k0_pay11 Y w) x (ix4 0 k 0 d) = (x (ix4 0 k 0 d) + ∑ e : Fin 2048, Y (ix2 ⟨128 + k.val, by omega⟩ e) * w (ix2 e d) : EReal) := by
  unfold_payloads
  clean_types
  pointwise

/-- The piece stored for row 3, at an index. -/
theorem out_at3 (Y : Vec Ideal S512x2048 .bf16) (w : Vec Ideal S2048x2048 .bf16) (x : Vec Ideal S1x64x1x2048 .f32) (k : Fin 64) (d : Fin 2048) :
    k0_pay16 (k0_pay11 Y w) x (ix4 0 k 0 d) = (x (ix4 0 k 0 d) + ∑ e : Fin 2048, Y (ix2 ⟨192 + k.val, by omega⟩ e) * w (ix2 e d) : EReal) := by
  unfold_payloads
  clean_types
  pointwise

/-- The piece stored for row 4, at an index. -/
theorem out_at4 (Y : Vec Ideal S512x2048 .bf16) (w : Vec Ideal S2048x2048 .bf16) (x : Vec Ideal S1x64x1x2048 .f32) (k : Fin 64) (d : Fin 2048) :
    k0_pay18 (k0_pay17 (k0_pay11 Y w) x) (ix4 0 k 0 d) = (x (ix4 0 k 0 d) + ∑ e : Fin 2048, Y (ix2 ⟨256 + k.val, by omega⟩ e) * w (ix2 e d) : EReal) := by
  unfold_payloads
  clean_types
  pointwise

/-- The piece stored for row 5, at an index. -/
theorem out_at5 (Y : Vec Ideal S512x2048 .bf16) (w : Vec Ideal S2048x2048 .bf16) (x : Vec Ideal S1x64x1x2048 .f32) (k : Fin 64) (d : Fin 2048) :
    k0_pay19 (k0_pay11 Y w) x (ix4 0 k 0 d) = (x (ix4 0 k 0 d) + ∑ e : Fin 2048, Y (ix2 ⟨320 + k.val, by omega⟩ e) * w (ix2 e d) : EReal) := by
  unfold_payloads
  clean_types
  pointwise

/-- The piece stored for row 6, at an index. -/
theorem out_at6 (Y : Vec Ideal S512x2048 .bf16) (w : Vec Ideal S2048x2048 .bf16) (x : Vec Ideal S1x64x1x2048 .f32) (k : Fin 64) (d : Fin 2048) :
    k0_pay20 (k0_pay11 Y w) x (ix4 0 k 0 d) = (x (ix4 0 k 0 d) + ∑ e : Fin 2048, Y (ix2 ⟨384 + k.val, by omega⟩ e) * w (ix2 e d) : EReal) := by
  unfold_payloads
  clean_types
  pointwise

/-- The piece stored for row 7, at an index. -/
theorem out_at7 (Y : Vec Ideal S512x2048 .bf16) (w : Vec Ideal S2048x2048 .bf16) (x : Vec Ideal S1x64x1x2048 .f32) (k : Fin 64) (d : Fin 2048) :
    k0_pay21 (k0_pay11 Y w) x (ix4 0 k 0 d) = (x (ix4 0 k 0 d) + ∑ e : Fin 2048, Y (ix2 ⟨448 + k.val, by omega⟩ e) * w (ix2 e d) : EReal) := by
  unfold_payloads
  clean_types
  pointwise

section

variable (arg2 : Memref sig .tc .vmem S64x128 .bf16) (harg2 : arg2.IsWhole) (arg3 : Memref sig .tc .vmem S2048x2048 .bf16) (harg3 : arg3.IsWhole) (arg4 : Memref sig .tc .vmem S1x2x8x64x2048 .bf16) (harg4 : arg4.IsWhole) (arg5 : Memref sig .tc .vmem S1x64x8x2048 .f32) (harg5 : arg5.IsWhole) (arg6 : Memref sig .tc .vmem S1x64x8x2048 .f32) (harg6 : arg6.IsWhole) (arg7 : Memref sig .tc .vmem S512x2048 .bf16) (harg7 : arg7.IsWhole)
    (x0 : Vec Ideal S64x128 .bf16) (x1 : Vec Ideal S2048x2048 .bf16) (x2 : Vec Ideal S1x2x8x64x2048 .bf16) (x3 : Vec Ideal S1x64x8x2048 .f32)

/-- A load of one half of one row reads that half of that row. -/
theorem load2 (p : Fin 2) (r : Fin 8) (inb : ∀ a, (![0, p.val, r.val, 0, 0] : Fin 5 → Nat) a + S1x1x1x64x2048.size a ≤ S1x2x8x64x2048.size a) (s : Fin 64) (d : Fin 2048) :
    View.readAt (Elt Ideal) arg4.view (Rect.unit (s := S1x2x8x64x2048) ![0, p.val, r.val, 0, 0] S1x1x1x64x2048.size inb).toLoadRect (harg4.unread x2) (ix5 0 0 0 s d)
      = x2 (ix5 0 p r s d) := by
  rw [Memref.IsWhole.readAt_unread]
  refine congrArg x2 (funext fun a => Fin.ext ?_)
  match a with
  | ⟨0, _⟩ => rfl
  | ⟨1, _⟩ => show p.val + 1 * 0 = p.val; omega
  | ⟨2, _⟩ => show r.val + 1 * 0 = r.val; omega
  | ⟨3, _⟩ => show 0 + 1 * s.val = s.val; omega
  | ⟨4, _⟩ => show 0 + 1 * d.val = d.val; omega

/-- A load of the whole table reads the table. -/
theorem load0 (k : Fin 64) (q : Fin 128) : (View.readAt (Elt Ideal) arg2.view (Rect.unit (s := S64x128) ![0, 0] S64x128.size inb_S64x128_S64x128_0_0).toLoadRect (harg2.unread x0)) (ix2 k q) = x0 (ix2 k q) := by
  rw [Memref.IsWhole.readAt_unread]
  refine congrArg x0 (funext fun a => Fin.ext ?_)
  match a with
  | ⟨0, _⟩ => show 0 + 1 * k.val = k.val; omega
  | ⟨1, _⟩ => show 0 + 1 * q.val = q.val; omega

/-- A load of the whole weights reads the weights. -/
theorem load1 (e d : Fin 2048) : (View.readAt (Elt Ideal) arg3.view (Rect.unit (s := S2048x2048) ![0, 0] S2048x2048.size inb_S2048x2048_S2048x2048_0_0).toLoadRect (harg3.unread x1)) (ix2 e d) = x1 (ix2 e d) := by
  rw [Memref.IsWhole.readAt_unread]
  refine congrArg x1 (funext fun a => Fin.ext ?_)
  match a with
  | ⟨0, _⟩ => show 0 + 1 * e.val = e.val; omega
  | ⟨1, _⟩ => show 0 + 1 * d.val = d.val; omega

/-- A load of one row of the residual's block reads that row. -/
theorem load3 (r : Fin 8) (inb : ∀ a, (![0, 0, r.val, 0] : Fin 4 → Nat) a + (![1, 64, 1, 2048] : Fin 4 → Nat) a ≤ S1x64x8x2048.size a) (k : Fin 64) (d : Fin 2048) :
    View.readAt (Elt Ideal) arg5.view (Rect.unit (s := S1x64x8x2048) ![0, 0, r.val, 0] ![1, 64, 1, 2048] inb).toLoadRect (harg5.unread x3) (ix4 (n0 := 1) (n1 := 64) (n2 := 1) (n3 := 2048) 0 k 0 d)
      = x3 (ix4 0 k r d) := by
  rw [Memref.IsWhole.readAt_unread]
  refine congrArg x3 (funext fun a => Fin.ext ?_)
  match a with
  | ⟨0, _⟩ => rfl
  | ⟨1, _⟩ => show 0 + 1 * k.val = k.val; omega
  | ⟨2, _⟩ => show r.val + 1 * 0 = r.val; omega
  | ⟨3, _⟩ => show 0 + 1 * d.val = d.val; omega

/-- The pieces stored in the scratch buffer, last first. -/
def yPieces : List (View.Piece (Elt Ideal) S512x2048 .bf16) :=
  [⟨Rect.unit (s := S512x2048) ![448, 0] S64x2048.size inb_S512x2048_S64x2048_448_0, k0_pay1 (View.readAt (Elt Ideal) arg4.view (Rect.unit (s := S1x2x8x64x2048) ![0, 0, 7, 0, 0] S1x1x1x64x2048.size inb_S1x2x8x64x2048_S1x1x1x64x2048_0_0_7_0_0).toLoadRect (harg4.unread x2))
      (View.readAt (Elt Ideal) arg4.view (Rect.unit (s := S1x2x8x64x2048) ![0, 1, 7, 0, 0] S1x1x1x64x2048.size inb_S1x2x8x64x2048_S1x1x1x64x2048_0_1_7_0_0).toLoadRect (harg4.unread x2)) (View.readAt (Elt Ideal) arg2.view (Rect.unit (s := S64x128) ![0, 0] S64x128.size inb_S64x128_S64x128_0_0).toLoadRect (harg2.unread x0))⟩,
    ⟨Rect.unit (s := S512x2048) ![384, 0] S64x2048.size inb_S512x2048_S64x2048_384_0, k0_pay1 (View.readAt (Elt Ideal) arg4.view (Rect.unit (s := S1x2x8x64x2048) ![0, 0, 6, 0, 0] S1x1x1x64x2048.size inb_S1x2x8x64x2048_S1x1x1x64x2048_0_0_6_0_0).toLoadRect (harg4.unread x2))
      (View.readAt (Elt Ideal) arg4.view (Rect.unit (s := S1x2x8x64x2048) ![0, 1, 6, 0, 0] S1x1x1x64x2048.size inb_S1x2x8x64x2048_S1x1x1x64x2048_0_1_6_0_0).toLoadRect (harg4.unread x2)) (View.readAt (Elt Ideal) arg2.view (Rect.unit (s := S64x128) ![0, 0] S64x128.size inb_S64x128_S64x128_0_0).toLoadRect (harg2.unread x0))⟩,
    ⟨Rect.unit (s := S512x2048) ![320, 0] S64x2048.size inb_S512x2048_S64x2048_320_0, k0_pay1 (View.readAt (Elt Ideal) arg4.view (Rect.unit (s := S1x2x8x64x2048) ![0, 0, 5, 0, 0] S1x1x1x64x2048.size inb_S1x2x8x64x2048_S1x1x1x64x2048_0_0_5_0_0).toLoadRect (harg4.unread x2))
      (View.readAt (Elt Ideal) arg4.view (Rect.unit (s := S1x2x8x64x2048) ![0, 1, 5, 0, 0] S1x1x1x64x2048.size inb_S1x2x8x64x2048_S1x1x1x64x2048_0_1_5_0_0).toLoadRect (harg4.unread x2)) (View.readAt (Elt Ideal) arg2.view (Rect.unit (s := S64x128) ![0, 0] S64x128.size inb_S64x128_S64x128_0_0).toLoadRect (harg2.unread x0))⟩,
    ⟨Rect.unit (s := S512x2048) ![256, 0] S64x2048.size inb_S512x2048_S64x2048_256_0, k0_pay1 (View.readAt (Elt Ideal) arg4.view (Rect.unit (s := S1x2x8x64x2048) ![0, 0, 4, 0, 0] S1x1x1x64x2048.size inb_S1x2x8x64x2048_S1x1x1x64x2048_0_0_4_0_0).toLoadRect (harg4.unread x2))
      (View.readAt (Elt Ideal) arg4.view (Rect.unit (s := S1x2x8x64x2048) ![0, 1, 4, 0, 0] S1x1x1x64x2048.size inb_S1x2x8x64x2048_S1x1x1x64x2048_0_1_4_0_0).toLoadRect (harg4.unread x2)) (View.readAt (Elt Ideal) arg2.view (Rect.unit (s := S64x128) ![0, 0] S64x128.size inb_S64x128_S64x128_0_0).toLoadRect (harg2.unread x0))⟩,
    ⟨Rect.unit (s := S512x2048) ![192, 0] S64x2048.size inb_S512x2048_S64x2048_192_0, k0_pay1 (View.readAt (Elt Ideal) arg4.view (Rect.unit (s := S1x2x8x64x2048) ![0, 0, 3, 0, 0] S1x1x1x64x2048.size inb_S1x2x8x64x2048_S1x1x1x64x2048_0_0_3_0_0).toLoadRect (harg4.unread x2))
      (View.readAt (Elt Ideal) arg4.view (Rect.unit (s := S1x2x8x64x2048) ![0, 1, 3, 0, 0] S1x1x1x64x2048.size inb_S1x2x8x64x2048_S1x1x1x64x2048_0_1_3_0_0).toLoadRect (harg4.unread x2)) (View.readAt (Elt Ideal) arg2.view (Rect.unit (s := S64x128) ![0, 0] S64x128.size inb_S64x128_S64x128_0_0).toLoadRect (harg2.unread x0))⟩,
    ⟨Rect.unit (s := S512x2048) ![128, 0] S64x2048.size inb_S512x2048_S64x2048_128_0, k0_pay1 (View.readAt (Elt Ideal) arg4.view (Rect.unit (s := S1x2x8x64x2048) ![0, 0, 2, 0, 0] S1x1x1x64x2048.size inb_S1x2x8x64x2048_S1x1x1x64x2048_0_0_2_0_0).toLoadRect (harg4.unread x2))
      (View.readAt (Elt Ideal) arg4.view (Rect.unit (s := S1x2x8x64x2048) ![0, 1, 2, 0, 0] S1x1x1x64x2048.size inb_S1x2x8x64x2048_S1x1x1x64x2048_0_1_2_0_0).toLoadRect (harg4.unread x2)) (View.readAt (Elt Ideal) arg2.view (Rect.unit (s := S64x128) ![0, 0] S64x128.size inb_S64x128_S64x128_0_0).toLoadRect (harg2.unread x0))⟩,
    ⟨Rect.unit (s := S512x2048) ![64, 0] S64x2048.size inb_S512x2048_S64x2048_64_0, k0_pay1 (View.readAt (Elt Ideal) arg4.view (Rect.unit (s := S1x2x8x64x2048) ![0, 0, 1, 0, 0] S1x1x1x64x2048.size inb_S1x2x8x64x2048_S1x1x1x64x2048_0_0_1_0_0).toLoadRect (harg4.unread x2))
      (View.readAt (Elt Ideal) arg4.view (Rect.unit (s := S1x2x8x64x2048) ![0, 1, 1, 0, 0] S1x1x1x64x2048.size inb_S1x2x8x64x2048_S1x1x1x64x2048_0_1_1_0_0).toLoadRect (harg4.unread x2)) (View.readAt (Elt Ideal) arg2.view (Rect.unit (s := S64x128) ![0, 0] S64x128.size inb_S64x128_S64x128_0_0).toLoadRect (harg2.unread x0))⟩,
    ⟨Rect.unit (s := S512x2048) ![0, 0] S64x2048.size inb_S512x2048_S64x2048_0_0, k0_pay1 (View.readAt (Elt Ideal) arg4.view (Rect.unit (s := S1x2x8x64x2048) ![0, 0, 0, 0, 0] S1x1x1x64x2048.size inb_S1x2x8x64x2048_S1x1x1x64x2048_0_0_0_0_0).toLoadRect (harg4.unread x2))
      (View.readAt (Elt Ideal) arg4.view (Rect.unit (s := S1x2x8x64x2048) ![0, 1, 0, 0, 0] S1x1x1x64x2048.size inb_S1x2x8x64x2048_S1x1x1x64x2048_0_1_0_0_0).toLoadRect (harg4.unread x2)) (View.readAt (Elt Ideal) arg2.view (Rect.unit (s := S64x128) ![0, 0] S64x128.size inb_S64x128_S64x128_0_0).toLoadRect (harg2.unread x0))⟩]

/-- The scratch buffer as the body loads it. -/
def yLoad : Vec Ideal S512x2048 .bf16 :=
  arg7.view.readCov (yPieces arg2 harg2 arg4 harg4 x0 x2) (Rect.unit (s := S512x2048) ![0, 0] S512x2048.size inb_S512x2048_S512x2048_0_0).toLoadRect

/-- A piece of the scratch buffer holds its rows. -/
theorem yPiece (r : Fin 8) (inb : ∀ a, (![64 * r.val, 0] : Fin 2 → Nat) a + S64x2048.size a ≤ S512x2048.size a)
    (i0 : ∀ a, (![0, 0, r.val, 0, 0] : Fin 5 → Nat) a + S1x1x1x64x2048.size a ≤ S1x2x8x64x2048.size a)
    (i1 : ∀ a, (![0, 1, r.val, 0, 0] : Fin 5 → Nat) a + S1x1x1x64x2048.size a ≤ S1x2x8x64x2048.size a) (x : S64x2048.Idx) :
    k0_pay1 (View.readAt (Elt Ideal) arg4.view (Rect.unit (s := S1x2x8x64x2048) ![0, 0, r.val, 0, 0] S1x1x1x64x2048.size i0).toLoadRect (harg4.unread x2))
      (View.readAt (Elt Ideal) arg4.view (Rect.unit (s := S1x2x8x64x2048) ![0, 1, r.val, 0, 0] S1x1x1x64x2048.size i1).toLoadRect (harg4.unread x2)) (View.readAt (Elt Ideal) arg2.view (Rect.unit (s := S64x128) ![0, 0] S64x128.size inb_S64x128_S64x128_0_0).toLoadRect (harg2.unread x0)) x
      = yAll x0 x2 ((Rect.unit (s := S512x2048) ![64 * r.val, 0] S64x2048.size inb).emb x) := by
  obtain ⟨k, d, rfl⟩ : ∃ (k : Fin 64) (d : Fin 2048), x = ix2 k d := ⟨x 0, x 1, eq_ix2 x⟩
  rw [pay_at]
  have e : (Rect.unit (s := S512x2048) ![64 * r.val, 0] S64x2048.size inb).emb (ix2 k d) = ix2 ⟨64 * r.val + k.val, by omega⟩ d := by
    refine funext fun a => Fin.ext ?_
    match a with
    | ⟨0, _⟩ => show 64 * r.val + 1 * k.val = 64 * r.val + k.val; omega
    | ⟨1, _⟩ => show 0 + 1 * d.val = d.val; omega
  rw [e]
  have a1 : (64 * r.val + k.val) / 64 = r.val := by omega
  have a2 : (64 * r.val + k.val) % 64 = k.val := by omega
  have e' : yAll x0 x2 (ix2 ⟨64 * r.val + k.val, by omega⟩ d) = yAt x0 x2 r k d := by
    unfold yAll
    simp only [ix2_0, ix2_1, a1, a2]
  rw [e']
  unfold yAt
  exact congrArg₂ (· + ·)
    (Finset.sum_congr rfl fun s _ => congrArg₂ (· * ·) (load0 arg2 harg2 x0 k _) (load2 arg4 harg4 x2 0 r i0 s d))
    (Finset.sum_congr rfl fun s _ => congrArg₂ (· * ·) (load0 arg2 harg2 x0 k _) (load2 arg4 harg4 x2 1 r i1 s d))

/-- The scratch buffer, loaded whole, holds the eight transforms. -/
theorem yLoad_eq : yLoad arg2 harg2 arg4 harg4 arg7 x0 x2 = yAll x0 x2 := by
  funext y
  have hi : (Rect.unit (s := S512x2048) ![0, 0] S512x2048.size inb_S512x2048_S512x2048_0_0).toLoadRect.idx y = y := by
    refine funext fun a => Fin.ext ?_
    match a with
    | ⟨0, _⟩ => show 0 + 1 * (y 0).val = (y 0).val; omega
    | ⟨1, _⟩ => show 0 + 1 * (y 1).val = (y 1).val; omega
  refine (View.read_writes_apply_of_pieces arg7.view _ (yAll x0 x2) (yPieces arg2 harg2 arg4 harg4 x0 x2) ?_ _
    (View.cover_of_tiledL (yPieces arg2 harg2 arg4 harg4 x0 x2) S64x2048.size (by sl_kernel_rfl) _)).trans (congrArg (yAll x0 x2) hi)
  unfold yPieces
  refine List.forall_mem_cons.2 ⟨fun x => yPiece arg2 harg2 arg4 harg4 x0 x2 7 inb_S512x2048_S64x2048_448_0 inb_S1x2x8x64x2048_S1x1x1x64x2048_0_0_7_0_0 inb_S1x2x8x64x2048_S1x1x1x64x2048_0_1_7_0_0 x, ?_⟩
  refine List.forall_mem_cons.2 ⟨fun x => yPiece arg2 harg2 arg4 harg4 x0 x2 6 inb_S512x2048_S64x2048_384_0 inb_S1x2x8x64x2048_S1x1x1x64x2048_0_0_6_0_0 inb_S1x2x8x64x2048_S1x1x1x64x2048_0_1_6_0_0 x, ?_⟩
  refine List.forall_mem_cons.2 ⟨fun x => yPiece arg2 harg2 arg4 harg4 x0 x2 5 inb_S512x2048_S64x2048_320_0 inb_S1x2x8x64x2048_S1x1x1x64x2048_0_0_5_0_0 inb_S1x2x8x64x2048_S1x1x1x64x2048_0_1_5_0_0 x, ?_⟩
  refine List.forall_mem_cons.2 ⟨fun x => yPiece arg2 harg2 arg4 harg4 x0 x2 4 inb_S512x2048_S64x2048_256_0 inb_S1x2x8x64x2048_S1x1x1x64x2048_0_0_4_0_0 inb_S1x2x8x64x2048_S1x1x1x64x2048_0_1_4_0_0 x, ?_⟩
  refine List.forall_mem_cons.2 ⟨fun x => yPiece arg2 harg2 arg4 harg4 x0 x2 3 inb_S512x2048_S64x2048_192_0 inb_S1x2x8x64x2048_S1x1x1x64x2048_0_0_3_0_0 inb_S1x2x8x64x2048_S1x1x1x64x2048_0_1_3_0_0 x, ?_⟩
  refine List.forall_mem_cons.2 ⟨fun x => yPiece arg2 harg2 arg4 harg4 x0 x2 2 inb_S512x2048_S64x2048_128_0 inb_S1x2x8x64x2048_S1x1x1x64x2048_0_0_2_0_0 inb_S1x2x8x64x2048_S1x1x1x64x2048_0_1_2_0_0 x, ?_⟩
  refine List.forall_mem_cons.2 ⟨fun x => yPiece arg2 harg2 arg4 harg4 x0 x2 1 inb_S512x2048_S64x2048_64_0 inb_S1x2x8x64x2048_S1x1x1x64x2048_0_0_1_0_0 inb_S1x2x8x64x2048_S1x1x1x64x2048_0_1_1_0_0 x, ?_⟩
  refine List.forall_mem_cons.2 ⟨fun x => yPiece arg2 harg2 arg4 harg4 x0 x2 0 inb_S512x2048_S64x2048_0_0 inb_S1x2x8x64x2048_S1x1x1x64x2048_0_0_0_0_0 inb_S1x2x8x64x2048_S1x1x1x64x2048_0_1_0_0_0 x, ?_⟩
  exact fun _ h => absurd h List.not_mem_nil

/-- The output block: the residual plus the product of the transforms with the weights. -/
def blockOut (y : S1x64x8x2048.Idx) : EReal :=
  x3 y + ∑ e : Fin 2048, yAt x0 x2 (y 2) (y 1) e * x1 (ix2 e (y 3))

/-- The pieces the body stores in the output block, last first. -/
theorem run_eq (c : Dev nD) (i : grid0.Coords) : (kernelRun0_A c i arg2 harg2 arg3 harg3 arg4 harg4 arg5 harg5 arg6 harg6 arg7 harg7 x0 x1 x2 x3).1 =
    [⟨Rect.unit (s := S1x64x8x2048) ![0, 0, 7, 0] ![1, 64, 1, 2048] inb_S1x64x8x2048_S1x64x1x2048_0_0_7_0, k0_pay21 (k0_pay11 (yLoad arg2 harg2 arg4 harg4 arg7 x0 x2) (View.readAt (Elt Ideal) arg3.view (Rect.unit (s := S2048x2048) ![0, 0] S2048x2048.size inb_S2048x2048_S2048x2048_0_0).toLoadRect (harg3.unread x1))) (View.readAt (Elt Ideal) arg5.view (Rect.unit (s := S1x64x8x2048) ![0, 0, 7, 0] ![1, 64, 1, 2048] inb_S1x64x8x2048_S1x64x1x2048_0_0_7_0).toLoadRect (harg5.unread x3))⟩,
    ⟨Rect.unit (s := S1x64x8x2048) ![0, 0, 6, 0] ![1, 64, 1, 2048] inb_S1x64x8x2048_S1x64x1x2048_0_0_6_0, k0_pay20 (k0_pay11 (yLoad arg2 harg2 arg4 harg4 arg7 x0 x2) (View.readAt (Elt Ideal) arg3.view (Rect.unit (s := S2048x2048) ![0, 0] S2048x2048.size inb_S2048x2048_S2048x2048_0_0).toLoadRect (harg3.unread x1))) (View.readAt (Elt Ideal) arg5.view (Rect.unit (s := S1x64x8x2048) ![0, 0, 6, 0] ![1, 64, 1, 2048] inb_S1x64x8x2048_S1x64x1x2048_0_0_6_0).toLoadRect (harg5.unread x3))⟩,
    ⟨Rect.unit (s := S1x64x8x2048) ![0, 0, 5, 0] ![1, 64, 1, 2048] inb_S1x64x8x2048_S1x64x1x2048_0_0_5_0, k0_pay19 (k0_pay11 (yLoad arg2 harg2 arg4 harg4 arg7 x0 x2) (View.readAt (Elt Ideal) arg3.view (Rect.unit (s := S2048x2048) ![0, 0] S2048x2048.size inb_S2048x2048_S2048x2048_0_0).toLoadRect (harg3.unread x1))) (View.readAt (Elt Ideal) arg5.view (Rect.unit (s := S1x64x8x2048) ![0, 0, 5, 0] ![1, 64, 1, 2048] inb_S1x64x8x2048_S1x64x1x2048_0_0_5_0).toLoadRect (harg5.unread x3))⟩,
    ⟨Rect.unit (s := S1x64x8x2048) ![0, 0, 4, 0] ![1, 64, 1, 2048] inb_S1x64x8x2048_S1x64x1x2048_0_0_4_0, k0_pay18 (k0_pay17 (k0_pay11 (yLoad arg2 harg2 arg4 harg4 arg7 x0 x2) (View.readAt (Elt Ideal) arg3.view (Rect.unit (s := S2048x2048) ![0, 0] S2048x2048.size inb_S2048x2048_S2048x2048_0_0).toLoadRect (harg3.unread x1))) (View.readAt (Elt Ideal) arg5.view (Rect.unit (s := S1x64x8x2048) ![0, 0, 4, 0] ![1, 64, 1, 2048] inb_S1x64x8x2048_S1x64x1x2048_0_0_4_0).toLoadRect (harg5.unread x3)))⟩,
    ⟨Rect.unit (s := S1x64x8x2048) ![0, 0, 3, 0] ![1, 64, 1, 2048] inb_S1x64x8x2048_S1x64x1x2048_0_0_3_0, k0_pay16 (k0_pay11 (yLoad arg2 harg2 arg4 harg4 arg7 x0 x2) (View.readAt (Elt Ideal) arg3.view (Rect.unit (s := S2048x2048) ![0, 0] S2048x2048.size inb_S2048x2048_S2048x2048_0_0).toLoadRect (harg3.unread x1))) (View.readAt (Elt Ideal) arg5.view (Rect.unit (s := S1x64x8x2048) ![0, 0, 3, 0] ![1, 64, 1, 2048] inb_S1x64x8x2048_S1x64x1x2048_0_0_3_0).toLoadRect (harg5.unread x3))⟩,
    ⟨Rect.unit (s := S1x64x8x2048) ![0, 0, 2, 0] ![1, 64, 1, 2048] inb_S1x64x8x2048_S1x64x1x2048_0_0_2_0, k0_pay15 (k0_pay11 (yLoad arg2 harg2 arg4 harg4 arg7 x0 x2) (View.readAt (Elt Ideal) arg3.view (Rect.unit (s := S2048x2048) ![0, 0] S2048x2048.size inb_S2048x2048_S2048x2048_0_0).toLoadRect (harg3.unread x1))) (View.readAt (Elt Ideal) arg5.view (Rect.unit (s := S1x64x8x2048) ![0, 0, 2, 0] ![1, 64, 1, 2048] inb_S1x64x8x2048_S1x64x1x2048_0_0_2_0).toLoadRect (harg5.unread x3))⟩,
    ⟨Rect.unit (s := S1x64x8x2048) ![0, 0, 1, 0] ![1, 64, 1, 2048] inb_S1x64x8x2048_S1x64x1x2048_0_0_1_0, k0_pay14 (k0_pay11 (yLoad arg2 harg2 arg4 harg4 arg7 x0 x2) (View.readAt (Elt Ideal) arg3.view (Rect.unit (s := S2048x2048) ![0, 0] S2048x2048.size inb_S2048x2048_S2048x2048_0_0).toLoadRect (harg3.unread x1))) (View.readAt (Elt Ideal) arg5.view (Rect.unit (s := S1x64x8x2048) ![0, 0, 1, 0] ![1, 64, 1, 2048] inb_S1x64x8x2048_S1x64x1x2048_0_0_1_0).toLoadRect (harg5.unread x3))⟩,
    ⟨Rect.unit (s := S1x64x8x2048) ![0, 0, 0, 0] ![1, 64, 1, 2048] inb_S1x64x8x2048_S1x64x1x2048_0_0_0_0, k0_pay13 (k0_pay12 (yLoad arg2 harg2 arg4 harg4 arg7 x0 x2) (View.readAt (Elt Ideal) arg3.view (Rect.unit (s := S2048x2048) ![0, 0] S2048x2048.size inb_S2048x2048_S2048x2048_0_0).toLoadRect (harg3.unread x1)) (View.readAt (Elt Ideal) arg5.view (Rect.unit (s := S1x64x8x2048) ![0, 0, 0, 0] ![1, 64, 1, 2048] inb_S1x64x8x2048_S1x64x1x2048_0_0_0_0).toLoadRect (harg5.unread x3)))⟩] := by
  unfold kernelRun0_A
  dsimp only
  sl_unfold_words
  rfl

/-- A stored piece, from its entries. -/
theorem oPiece (r : Fin 8) (inb : ∀ a, (![0, 0, r.val, 0] : Fin 4 → Nat) a + (![1, 64, 1, 2048] : Fin 4 → Nat) a ≤ S1x64x8x2048.size a)
    (p : Vec Ideal S1x64x1x2048 .f32)
    (hp : ∀ (k : Fin 64) (d : Fin 2048), p (ix4 0 k 0 d)
      = (View.readAt (Elt Ideal) arg5.view (Rect.unit (s := S1x64x8x2048) ![0, 0, r.val, 0] ![1, 64, 1, 2048] inb).toLoadRect (harg5.unread x3) (ix4 (n0 := 1) (n1 := 64) (n2 := 1) (n3 := 2048) 0 k 0 d)
        + ∑ e : Fin 2048, (yLoad arg2 harg2 arg4 harg4 arg7 x0 x2) (ix2 ⟨64 * r.val + k.val, by omega⟩ e) * (View.readAt (Elt Ideal) arg3.view (Rect.unit (s := S2048x2048) ![0, 0] S2048x2048.size inb_S2048x2048_S2048x2048_0_0).toLoadRect (harg3.unread x1)) (ix2 e d) : EReal))
    (x : S1x64x1x2048.Idx) : p x = blockOut x0 x1 x2 x3 ((Rect.unit (s := S1x64x8x2048) ![0, 0, r.val, 0] ![1, 64, 1, 2048] inb).emb x) := by
  obtain ⟨k, d, rfl⟩ : ∃ (k : Fin 64) (d : Fin 2048), x = ix4 0 k 0 d := by
    refine ⟨x 1, x 3, funext fun a => Fin.ext ?_⟩
    match a with
    | ⟨0, _⟩ => have h : (x 0).val < 1 := (x 0).isLt; show (x 0).val = 0; omega
    | ⟨1, _⟩ => rfl
    | ⟨2, _⟩ => have h : (x 2).val < 1 := (x 2).isLt; show (x 2).val = 0; omega
    | ⟨3, _⟩ => rfl
  rw [hp, load3, yLoad_eq]
  have e : (Rect.unit (s := S1x64x8x2048) ![0, 0, r.val, 0] ![1, 64, 1, 2048] inb).emb (ix4 (n0 := 1) (n1 := 64) (n2 := 1) (n3 := 2048) 0 k 0 d) = ix4 0 k r d := by
    refine funext fun a => Fin.ext ?_
    match a with
    | ⟨0, _⟩ => rfl
    | ⟨1, _⟩ => show 0 + 1 * k.val = k.val; omega
    | ⟨2, _⟩ => show r.val + 1 * 0 = r.val; omega
    | ⟨3, _⟩ => show 0 + 1 * d.val = d.val; omega
  rw [e]
  unfold blockOut
  refine congrArg (x3 (ix4 0 k r d) + ·) (Finset.sum_congr rfl fun e _ => congrArg₂ (· * ·) ?_ (load1 arg3 harg3 x1 e d))
  have a1 : (64 * r.val + k.val) / 64 = r.val := by omega
  have a2 : (64 * r.val + k.val) % 64 = k.val := by omega
  unfold yAll
  simp only [ix2_0, ix2_1, ix4_1, ix4_2, a1, a2]

/-- What the body leaves in the output block. -/
theorem out_eq (c : Dev nD) (i : grid0.Coords) : out0_A_4 c i arg2 harg2 arg3 harg3 arg4 harg4 arg5 harg5 arg6 harg6 arg7 harg7 x0 x1 x2 x3 = blockOut x0 x1 x2 x3 := by
  funext y
  refine View.read_writes_apply_of_pieces VO0_4 _ _ _ ?_ y (cover0_A_4 c i arg2 harg2 arg3 harg3 arg4 harg4 arg5 harg5 arg6 harg6 arg7 harg7 x0 x1 x2 x3 y)
  rw [run_eq]
  refine List.forall_mem_cons.2 ⟨fun x => oPiece arg2 harg2 arg3 harg3 arg4 harg4 arg5 harg5 arg7 x0 x1 x2 x3 7 inb_S1x64x8x2048_S1x64x1x2048_0_0_7_0 _ (fun k d => ?_) x, ?_⟩
  · exact out_at7 _ _ _ k d
  refine List.forall_mem_cons.2 ⟨fun x => oPiece arg2 harg2 arg3 harg3 arg4 harg4 arg5 harg5 arg7 x0 x1 x2 x3 6 inb_S1x64x8x2048_S1x64x1x2048_0_0_6_0 _ (fun k d => ?_) x, ?_⟩
  · exact out_at6 _ _ _ k d
  refine List.forall_mem_cons.2 ⟨fun x => oPiece arg2 harg2 arg3 harg3 arg4 harg4 arg5 harg5 arg7 x0 x1 x2 x3 5 inb_S1x64x8x2048_S1x64x1x2048_0_0_5_0 _ (fun k d => ?_) x, ?_⟩
  · exact out_at5 _ _ _ k d
  refine List.forall_mem_cons.2 ⟨fun x => oPiece arg2 harg2 arg3 harg3 arg4 harg4 arg5 harg5 arg7 x0 x1 x2 x3 4 inb_S1x64x8x2048_S1x64x1x2048_0_0_4_0 _ (fun k d => ?_) x, ?_⟩
  · exact out_at4 _ _ _ k d
  refine List.forall_mem_cons.2 ⟨fun x => oPiece arg2 harg2 arg3 harg3 arg4 harg4 arg5 harg5 arg7 x0 x1 x2 x3 3 inb_S1x64x8x2048_S1x64x1x2048_0_0_3_0 _ (fun k d => ?_) x, ?_⟩
  · exact out_at3 _ _ _ k d
  refine List.forall_mem_cons.2 ⟨fun x => oPiece arg2 harg2 arg3 harg3 arg4 harg4 arg5 harg5 arg7 x0 x1 x2 x3 2 inb_S1x64x8x2048_S1x64x1x2048_0_0_2_0 _ (fun k d => ?_) x, ?_⟩
  · exact out_at2 _ _ _ k d
  refine List.forall_mem_cons.2 ⟨fun x => oPiece arg2 harg2 arg3 harg3 arg4 harg4 arg5 harg5 arg7 x0 x1 x2 x3 1 inb_S1x64x8x2048_S1x64x1x2048_0_0_1_0 _ (fun k d => ?_) x, ?_⟩
  · exact out_at1 _ _ _ k d
  refine List.forall_mem_cons.2 ⟨fun x => oPiece arg2 harg2 arg3 harg3 arg4 harg4 arg5 harg5 arg7 x0 x1 x2 x3 0 inb_S1x64x8x2048_S1x64x1x2048_0_0_0_0 _ (fun k d => ?_) x, ?_⟩
  · refine (out_at0 _ _ _ k d).trans ?_; simp only [Fin.val_zero, Nat.mul_zero, Nat.zero_add]
  exact fun _ h => absurd h List.not_mem_nil

end

end

end Cert.Kernel4Ideal.Gen
-- ==== Proof.Fourier.Stage2.lean ====
module

public import proofs.«01_k».proof.Proof.Fourier.Body
public import proofs.«01_k».proof.Proof.Gen.Reference4Ideal.Run

@[expose] public section

set_option maxRecDepth 16384

/-! # The last step of the Fourier mixing, with its weights and its residual

Each grid point writes eight rows of one batch entry; the blocks tile the result. -/

namespace Cert.Kernel4Ideal.Gen

open Idealize.ShloMosaic Idealize.SL.Sem Idealize.ShloMosaic.TcCoe
open Cert.Kernel4Ideal

noncomputable section

variable (m : (ℓ : Loc nD τ sig) → Buf (Elt Ideal) ℓ) (c : Dev nD) (t : Fin cfg0.N)

/-- The batch entry of a grid point. -/
def batchOf (t : Fin cfg0.N) : Fin 4 := ⟨(grid0.coords t 0).val, (grid0.coords t 0).isLt⟩

/-- The block of rows of a grid point. -/
def rowsOf (t : Fin cfg0.N) : Fin 8 := ⟨(grid0.coords t 1).val, (grid0.coords t 1).isLt⟩

/-- The table is read whole at every grid point. -/
theorem idx0_0 : ∀ t : Fin cfg0.N, win0_0.index t = ![0, 0] := by decide +kernel
/-- The weights are read whole at every grid point. -/
theorem idx0_1 : ∀ t : Fin cfg0.N, win0_1.index t = ![0, 0] := by decide +kernel
/-- The block of the first step's result read at a grid point. -/
theorem idx0_2 : ∀ t : Fin cfg0.N, win0_2.index t = ![(batchOf t).val, 0, (rowsOf t).val, 0, 0] := by decide +kernel
/-- The block of the residual read at a grid point. -/
theorem idx0_3 : ∀ t : Fin cfg0.N, win0_3.index t = ![(batchOf t).val, 0, (rowsOf t).val, 0] := by decide +kernel
/-- The block written at a grid point. -/
theorem idx0_4 : ∀ t : Fin cfg0.N, win0_4.index t = ![(batchOf t).val, 0, (rowsOf t).val, 0] := by decide +kernel

/-- The first step's result, as the kernel is given it. -/
def argG : (⟨4, ![4, 2, 64, 131072]⟩ : Shape).Idx → EReal := m ((c.tc : Thread nD τ).loc main_arg0)

/-- The weights the kernel is given. -/
def argW : (⟨3, ![1, 2048, 2048]⟩ : Shape).Idx → EReal := m ((c.tc : Thread nD τ).loc main_arg1)

/-- The residual the kernel is given. -/
def argX : (⟨3, ![4, 4096, 2048]⟩ : Shape).Idx → EReal := m ((c.tc : Thread nD τ).loc main_arg2)

/-- The table of cosines and sines. -/
def tab (i : S64x128.Idx) : EReal := (FloatOps.ofBits (F := Ideal) .bf16 (lit0 (S64x128.rowMajor i)) : Ideal .bf16)

/-- The two programs hold the same table. -/
theorem lit_eq (i : Fin 8192) : Cert.Kernel4Ideal.lit0 i = Cert.Reference4Ideal.lit0 i := rfl

/-- The host's table. -/
theorem host_tab : (V m c main_cst : Vec Ideal S64x128 .bf16) = tab := by
  unfold tab
  entry_read
  rfl

/-- The host's cast of the weights keeps every weight. -/
theorem host_w (e d : Fin 2048) : (V m c main_v2 : Vec Ideal S2048x2048 .bf16) (ix2 e d) = argW m c (ix3 0 e d) := by
  unfold argW
  entry_read
  clean_types
  pointwise
  try rfl

/-- The host's reshape of the first step's result. -/
theorem host_g (b : Fin 4) (p : Fin 2) (r s : Fin 64) (d : Fin 2048) : (V m c main_v3 : Vec Ideal S4x2x64x64x2048 .bf16) (ix5 b p r s d)
    = argG m c (ix4 b p r ⟨s.val * 2048 + d.val, by omega⟩) := by
  unfold argG
  entry_read
  clean_types
  pointwise
  try rfl

/-- The host's reshape of the residual. -/
theorem host_x (b : Fin 4) (k r : Fin 64) (d : Fin 2048) : (V m c main_v0 : Vec Ideal S4x64x64x2048 .f32) (ix4 b k r d)
    = argX m c (ix3 b ⟨k.val * 64 + r.val, by omega⟩ d) := by
  unfold argX
  entry_read
  clean_types
  pointwise
  try rfl

/-- The table at a grid point. -/
theorem blk0 (k : Fin 64) (q : Fin 128) : (iblk m c 0 t : Vec Ideal S64x128 .bf16) (ix2 k q) = tab (ix2 k q) := by
  refine Eq.trans ?_ (congrFun (host_tab m c) (ix2 k q))
  blk_ext [iblk, idx0_0 t]

/-- The weights at a grid point. -/
theorem blk1 (e d : Fin 2048) : (iblk m c 1 t : Vec Ideal S2048x2048 .bf16) (ix2 e d) = argW m c (ix3 0 e d) := by
  refine Eq.trans ?_ (host_w m c e d)
  blk_ext [iblk, idx0_1 t]

/-- The block of the first step's result at a grid point, placed in the array. -/
theorem blk2 (p : Fin 2) (r : Fin 8) (s : Fin 64) (d : Fin 2048) : (iblk m c 2 t : Vec Ideal S1x2x8x64x2048 .bf16) (ix5 0 p r s d)
    = argG m c (ix4 (batchOf t) p ⟨8 * (rowsOf t).val + r.val, by omega⟩ ⟨s.val * 2048 + d.val, by omega⟩) := by
  refine Eq.trans ?_ (host_g m c (batchOf t) p ⟨8 * (rowsOf t).val + r.val, by omega⟩ s d)
  blk_ext [iblk, idx0_2 t]

/-- The block of the residual at a grid point, placed in the array. -/
theorem blk3 (k : Fin 64) (r : Fin 8) (d : Fin 2048) : (iblk m c 3 t : Vec Ideal S1x64x8x2048 .f32) (ix4 0 k r d)
    = argX m c (ix3 (batchOf t) ⟨k.val * 64 + (8 * (rowsOf t).val + r.val), by omega⟩ d) := by
  refine Eq.trans ?_ (host_x m c (batchOf t) k ⟨8 * (rowsOf t).val + r.val, by omega⟩ d)
  blk_ext [iblk, idx0_3 t]

/-- One entry of the transform: row `k` of the table times the two halves of row `r` of the first step's result. -/
def mixed (b : Fin 4) (k r : Fin 64) (d : Fin 2048) : EReal :=
  ∑ s : Fin 64, tab (ix2 k ⟨s.val, by omega⟩) * argG m c (ix4 b 0 r ⟨s.val * 2048 + d.val, by omega⟩)
    + ∑ s : Fin 64, tab (ix2 k ⟨64 + s.val, by omega⟩) * argG m c (ix4 b 1 r ⟨s.val * 2048 + d.val, by omega⟩)

/-- The residual added to the product of the transform with the weights, entry by entry. -/
def resultAt (b : Fin 4) (k r : Fin 64) (d : Fin 2048) : EReal :=
  argX m c (ix3 b ⟨k.val * 64 + r.val, by omega⟩ d) + ∑ e : Fin 2048, mixed m c b k r e * argW m c (ix3 0 e d)

/-- The whole result. -/
def result (y : (⟨4, ![4, 64, 64, 2048]⟩ : Shape).Idx) : EReal := resultAt m c (y 0) (y 1) (y 2) (y 3)

/-- What a grid point writes is its block of the result. -/
theorem outs_at (y : S1x64x8x2048.Idx) :
    outsAt0 m c t y = result m c (ix4 (batchOf t) (y 1) ⟨8 * (rowsOf t).val + (y 2).val, by have h : (y 2).val < 8 := (y 2).isLt; omega⟩ (y 3)) := by
  obtain ⟨k, r, d, rfl⟩ : ∃ (k : Fin 64) (r : Fin 8) (d : Fin 2048), y = ix4 0 k r d := by
    refine ⟨y 1, y 2, y 3, funext fun a => Fin.ext ?_⟩
    match a with
    | ⟨0, _⟩ => have h : (y 0).val < 1 := (y 0).isLt; show (y 0).val = 0; omega
    | ⟨1, _⟩ => rfl
    | ⟨2, _⟩ => rfl
    | ⟨3, _⟩ => rfl
  unfold outsAt0
  rw [out_eq]
  unfold blockOut result resultAt
  refine congrArg₂ (· + ·) (blk3 m c t k r d) (Finset.sum_congr rfl fun e _ => congrArg₂ (· * ·) ?_ (blk1 m c t e d))
  unfold yAt mixed
  exact congrArg₂ (· + ·)
    (Finset.sum_congr rfl fun s _ => congrArg₂ (· * ·) (blk0 m c t k _) (blk2 m c t 0 r s e))
    (Finset.sum_congr rfl fun s _ => congrArg₂ (· * ·) (blk0 m c t k _) (blk2 m c t 1 r s e))

/-- The result array after the run. -/
theorem final : (dats m 0 c).arrAt 4 cfg0.N = result m c := by
  refine (dats m 0 c).arrAt_eq_of_covers 4 _ (by decide +kernel) fun t hf y => ?_
  blk_simp
  refine (congrFun (after0_4 m c t) y).trans ((outs_at m c t y).trans (congrArg (result m c) ?_))
  blk_ext [idx0_4 t]

/-- The reference's transform, product and sum, entry by entry. -/
theorem ref_eq (a0 : Vec Ideal Cert.Reference4Ideal.S4x2x64x131072 .bf16) (a1 : Vec Ideal Cert.Reference4Ideal.S1x2048x2048 .f32)
    (a2 : Vec Ideal Cert.Reference4Ideal.S4x4096x2048 .f32)
    (h0 : a0 = argG m c) (h1 : a1 = argW m c) (h2 : a2 = argX m c) :
    (addf (φ := .f32) (shapeCast _ a2 Cert.Reference4Ideal.Facts₀.shapeCasts_S4x4096x2048_S4x64x64x2048) (Host.dotGeneral (F := Ideal) (φ₁ := .f32) (φ₂ := .f32) Cert.Reference4Ideal.dot_S4x64x64x2048_S2048x2048_S4x64x64x2048_3_0_012_1_n_n none (transpose Cert.Reference4Ideal.S4x64x64x2048 [0, 3, 1, 2] (Host.dotGeneral (F := Ideal) (φ₁ := .f32) (φ₂ := .f32) Cert.Reference4Ideal.dot_S4x64x128x2048_S64x128_S4x64x2048x64_2_1_013_0_n_n none (concatenate Cert.Reference4Ideal.S4x64x128x2048 2 [⟨Cert.Reference4Ideal.S4x64x64x2048, (shapeCast _ (extractStridedSlice Cert.Reference4Ideal.S4x1x64x64x2048 ![0, 0, 0, 0, 0] (shapeCast _ (extf .f32 a0 Cert.Reference4Ideal.Facts₀.bitsLt_bf16_f32) Cert.Reference4Ideal.Facts₀.shapeCasts_S4x2x64x131072_S4x2x64x64x2048) Cert.Reference4Ideal.Facts₀.slices_S4x2x64x64x2048_S4x1x64x64x2048_0_0_0_0_0) Cert.Reference4Ideal.Facts₀.shapeCasts_S4x1x64x64x2048_S4x64x64x2048)⟩, ⟨Cert.Reference4Ideal.S4x64x64x2048, (shapeCast _ (extractStridedSlice Cert.Reference4Ideal.S4x1x64x64x2048 ![0, 1, 0, 0, 0] (shapeCast _ (extf .f32 a0 Cert.Reference4Ideal.Facts₀.bitsLt_bf16_f32) Cert.Reference4Ideal.Facts₀.shapeCasts_S4x2x64x131072_S4x2x64x64x2048) Cert.Reference4Ideal.Facts₀.slices_S4x2x64x64x2048_S4x1x64x64x2048_0_1_0_0_0) Cert.Reference4Ideal.Facts₀.shapeCasts_S4x1x64x64x2048_S4x64x64x2048)⟩] Cert.Reference4Ideal.Facts₀.concatenates_S4x64x64x2048_S4x64x64x2048_S4x64x128x2048_d2) (extf .f32 ((fun i => FloatOps.ofBits .bf16 (Cert.Reference4Ideal.lit0 (S64x128.rowMajor i)))) Cert.Reference4Ideal.Facts₀.bitsLt_bf16_f32)) Cert.Reference4Ideal.Facts₀.transposes_S4x64x2048x64_S4x64x64x2048_0_3_1_2) (shapeCast _ a1 Cert.Reference4Ideal.Facts₀.shapeCasts_S1x2048x2048_S2048x2048)) :
        Vec Ideal Cert.Reference4Ideal.S4x64x64x2048 .f32) = result m c := by
  have hT : ((fun i => FloatOps.ofBits (F := Ideal) .bf16 (Cert.Reference4Ideal.lit0 (S64x128.rowMajor i))) : Vec Ideal S64x128 .bf16) = tab :=
    funext fun i => congrArg (Ideal.ofBits .bf16) (lit_eq (S64x128.rowMajor i)).symm
  rw [hT]
  subst h0 h1 h2
  funext y
  obtain ⟨b, k, r, d, rfl⟩ : ∃ (b : Fin 4) (k r : Fin 64) (d : Fin 2048), y = ix4 b k r d := ⟨y 0, y 1, y 2, y 3, eq_ix4 y⟩
  show _ = resultAt m c b k r d
  unfold resultAt mixed
  simp only [mul_comm (tab _)]
  clean_types
  pointwise

end

end Cert.Kernel4Ideal.Gen
-- ==== Proof.Norm.Mix.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Claim
public import Idealize.ShloMosaic.Lib.Tactic.CleanTypes

@[expose] public section

set_option maxRecDepth 16384

/-! # The norm before a mixer

Blocks of 512 rows; each row is divided by the root of its mean square and scaled by the gain. -/

namespace Cert.Kernel5Ideal.Gen

open Idealize.ShloMosaic Idealize.SL.Sem Idealize.ShloMosaic.TcCoe
open Cert.Kernel5Ideal

noncomputable section

/-- The offsets of a whole block are zero. -/
theorem zero_offsets : (![0, 0] : Fin 2 → Nat) = fun _ => 0 := funext fun a => by fin_cases a <;> rfl

/-- An entry of a row, divided by the root of the row's mean square plus the small constant, times a gain. -/
def normed {n : Nat} (x : (⟨2, ![n, 2048]⟩ : Shape).Idx → EReal) (r : Fin n) (l : Fin 2048) (g : EReal) : EReal :=
  x (ix2 r l) * Ideal.rsqrt (Ideal.div (∑ k : Fin 2048, x (ix2 r k) * x (ix2 r k)) (Ideal.ofBits FTy.f32 0x45000000#32)
    + Ideal.ofBits FTy.f32 0x358637BD#32) * g

/-- Row `r` of the block at `x0`, normed and scaled by the gains at `x1`. -/
theorem out_at (x0 : Vec Ideal S512x2048 .f32) (x1 : Vec Ideal S1x2048 .f32) (r : Fin 512) (l : Fin 2048) :
    out0_2 x0 x1 (ix2 r l) = normed x0 r l (x1 (ix2 0 l)) := by
  unfold out0_2 r0_0 r0_1 normed
  rw [View.canon_unit_zero zero_offsets]
  simp only [View.ld_unit_zero (S := S512x2048) zero_offsets, View.ld_unit_zero (S := S1x2048) zero_offsets]
  unfold_payloads
  clean_types
  pointwise

variable (m : (ℓ : Loc nD τ sig) → Buf (Elt Ideal) ℓ) (c : Dev nD) (t : Fin cfg0.N)

/-- The row block of a grid point. -/
def rowOf (t : Fin cfg0.N) : Fin 32 := ⟨(grid0.coords t 0).val, (grid0.coords t 0).isLt⟩

/-- The block of rows read at a grid point. -/
theorem idx0_0 : ∀ t : Fin cfg0.N, win0_0.index t = ![(rowOf t).val, 0] := by decide +kernel
/-- The gains are read whole at every grid point. -/
theorem idx0_1 : ∀ t : Fin cfg0.N, win0_1.index t = ![0, 0] := by decide +kernel
/-- The block written at a grid point. -/
theorem idx0_2 : ∀ t : Fin cfg0.N, win0_2.index t = ![(rowOf t).val, 0] := by decide +kernel

/-- The rows the kernel is given. -/
def argX : (⟨2, ![16384, 2048]⟩ : Shape).Idx → EReal := m ((c.tc : Thread nD τ).loc main_arg0)

/-- The gains the kernel is given. -/
def argG : (⟨1, ![2048]⟩ : Shape).Idx → EReal := m ((c.tc : Thread nD τ).loc main_arg1)

/-- The block of rows at a grid point, placed in the array. -/
theorem blk0 (r : Fin 512) (k : Fin 2048) : (iblk m c 0 t : Vec Ideal S512x2048 .f32) (ix2 r k)
    = argX m c (ix2 ⟨512 * (rowOf t).val + r.val, by omega⟩ k) := by
  unfold argX
  blk_ext [iblk, V_main_arg0, idx0_0 t]

/-- The host's reshape of the gains keeps every gain. -/
theorem gains (l : Fin 2048) : (V m c main_v0 : Vec Ideal S1x2048 .f32) (ix2 0 l) = argG m c (ix1 l) := by
  unfold argG
  entry_read
  clean_types
  pointwise
  try rfl

/-- The gains at a grid point. -/
theorem blk1 (l : Fin 2048) : (iblk m c 1 t : Vec Ideal S1x2048 .f32) (ix2 0 l) = argG m c (ix1 l) := by
  refine Eq.trans ?_ (gains m c l)
  blk_ext [iblk, idx0_1 t]

/-- Every row normed and scaled, entry by entry. -/
def result (y : (⟨2, ![16384, 2048]⟩ : Shape).Idx) : EReal := normed (argX m c) (y 0) (y 1) (argG m c (ix1 (y 1)))

/-- What a grid point writes is its block of the normed rows. -/
theorem outs_at (y : S512x2048.Idx) :
    out0_2 (iblk m c 0 t) (iblk m c 1 t) y
      = result m c (ix2 ⟨512 * (rowOf t).val + (y 0).val, by have h : (y 0).val < 512 := (y 0).isLt; omega⟩ (y 1)) := by
  obtain ⟨r, l, rfl⟩ : ∃ (r : Fin 512) (l : Fin 2048), y = ix2 r l := ⟨y 0, y 1, eq_ix2 y⟩
  rw [out_at]
  unfold result normed
  refine congrArg₂ (· * ·) (congrArg₂ (· * ·) (blk0 m c t r l) ?_) (blk1 m c t l)
  refine congrArg (fun z => Ideal.rsqrt (Ideal.div z (Ideal.ofBits FTy.f32 0x45000000#32) + Ideal.ofBits FTy.f32 0x358637BD#32)) ?_
  exact Finset.sum_congr rfl fun k _ => congrArg₂ (· * ·) (blk0 m c t r k) (blk0 m c t r k)

/-- The result array after the run. -/
theorem final : (dats m 0 c).arrAt 2 cfg0.N = result m c := by
  refine (dats m 0 c).arrAt_eq_of_covers 2 _ (by decide +kernel) fun t hf y => ?_
  blk_simp
  refine (congrFun (after0_2 m c t) y).trans ((outs_at m c t y).trans (congrArg (result m c) ?_))
  blk_ext [idx0_2 t]

/-- The reference's norm, entry by entry. -/
theorem ref_eq (a0 : Vec Ideal Cert.Reference5Ideal.S16384x2048 .f32) (a1 : Vec Ideal Cert.Reference5Ideal.S2048 .f32)
    (h0 : a0 = argX m c) (h1 : a1 = argG m c) :
    (truncf (F := Ideal) (φ := .f32) .bf16 (mulf (F := Ideal) (φ := .f32) (mulf (F := Ideal) (φ := .f32) a0 (broadcastInDim Cert.Reference5Ideal.S16384x2048 ![0, 1] Cert.Reference5Ideal.Facts₀.bcast_S16384x1_S16384x2048_0_1 (Host.rsqrt (F := Ideal) (φ := .f32) (addf (F := Ideal) (φ := .f32) (Host.divf (F := Ideal) (φ := .f32) (broadcastInDim Cert.Reference5Ideal.S16384x1 ![0] Cert.Reference5Ideal.Facts₀.bcast_S16384_S16384x1_0 (Host.reduceAdd (F := Ideal) (φ := .f32) (mulf (F := Ideal) (φ := .f32) a0 a0) (constant (F := Ideal) Cert.Reference5Ideal.S_ .f32 0x00000000#32) Cert.Reference5Ideal.Facts₀.reducesTo_S16384x2048_S16384_d1 Cert.Reference5Ideal.Facts₀.h_S_)) (broadcastInDim Cert.Reference5Ideal.S16384x1 ![] Cert.Reference5Ideal.Facts₀.bcast_S_S16384x1 (constant (F := Ideal) Cert.Reference5Ideal.S_ .f32 0x45000000#32))) (broadcastInDim Cert.Reference5Ideal.S16384x1 ![] Cert.Reference5Ideal.Facts₀.bcast_S_S16384x1 (constant (F := Ideal) Cert.Reference5Ideal.S_ .f32 0x358637BD#32)))))) (broadcastInDim Cert.Reference5Ideal.S16384x2048 ![0, 1] Cert.Reference5Ideal.Facts₀.bcast_S1x2048_S16384x2048_0_1 (broadcastInDim Cert.Reference5Ideal.S1x2048 ![1] Cert.Reference5Ideal.Facts₀.bcast_S2048_S1x2048_1 a1))) Cert.Reference5Ideal.Facts₀.bitsLt_bf16_f32 :
        Vec Ideal Cert.Reference5Ideal.S16384x2048 .bf16) = result m c := by
  subst h0 h1
  funext y
  obtain ⟨r, l, rfl⟩ : ∃ (r : Fin 16384) (l : Fin 2048), y = ix2 r l := ⟨y 0, y 1, eq_ix2 y⟩
  unfold result normed
  clean_types
  pointwise

end

end Cert.Kernel5Ideal.Gen
-- ==== Proof.Fourier.Stage1Body.lean ====
module

public import proofs.«01_k».proof.Proof.Gen.Kernel6Ideal.Value
public import Idealize.ShloMosaic.Lib.Pipeline.ValueKit
public import Idealize.ShloMosaic.Lib.Claim
public import Idealize.ShloMosaic.Lib.WholeRead
public import Idealize.ShloMosaic.Lib.Tactic.CleanTypes

@[expose] public section

set_option maxRecDepth 16384

/-! # The first step of the Fourier mixing, one grid point

The body takes eight columns of positions, multiplies each group of channels by the table of cosines and sines into two
scratch buffers, and transforms each column of the two over its 64 positions. -/

namespace Cert.Kernel6Ideal.Gen

open Idealize.ShloMosaic Idealize.SL.Sem Idealize.ShloMosaic.TcCoe
open Cert.Kernel6Ideal

noncomputable section

/-- The channel transform of one position, at the table's columns from `o` on. -/
def chan (o : Nat) (ho : o ≤ 256) (x0 : Vec Ideal S256x512 .bf16) (x2 : Vec Ideal S1x64x16384 .bf16) (r : Fin 8) (s : Fin 64) (d : Fin 2048) : EReal :=
  ∑ k : Fin 256, x2 (ix3 0 s ⟨2048 * r.val + (256 * (d.val / 256) + k.val), by omega⟩) * x0 (ix2 k ⟨o + d.val % 256, by omega⟩)

/-- A scratch buffer: the channel transforms of the eight columns one under the other. -/
def chanAll (o : Nat) (ho : o ≤ 256) (x0 : Vec Ideal S256x512 .bf16) (x2 : Vec Ideal S1x64x16384 .bf16) (y : S512x2048.Idx) : EReal :=
  have h : (y 0).val < 512 := (y 0).isLt
  chan o ho x0 x2 ⟨(y 0).val / 64, by omega⟩ ⟨(y 0).val % 64, by omega⟩ (y 1)

/-- Column 0 of the eight, under the ones before it. -/
theorem rows_at0 (v0 v1 v2 v3 v4 v5 v6 v7 : Vec Ideal S1x64x2048 .bf16) (s : Fin 64) (d : Fin 2048) : k0_pay3 v0 v1 v2 v3 v4 v5 v6 v7 (ix2 ⟨s.val, by omega⟩ d) = v0 (ix3 0 s d) := by
  unfold_payloads
  clean_types
  pointwise

/-- Column 1 of the eight, under the ones before it. -/
theorem rows_at1 (v0 v1 v2 v3 v4 v5 v6 v7 : Vec Ideal S1x64x2048 .bf16) (s : Fin 64) (d : Fin 2048) : k0_pay3 v0 v1 v2 v3 v4 v5 v6 v7 (ix2 ⟨64 + s.val, by omega⟩ d) = v1 (ix3 0 s d) := by
  unfold_payloads
  clean_types
  pointwise

/-- Column 2 of the eight, under the ones before it. -/
theorem rows_at2 (v0 v1 v2 v3 v4 v5 v6 v7 : Vec Ideal S1x64x2048 .bf16) (s : Fin 64) (d : Fin 2048) : k0_pay3 v0 v1 v2 v3 v4 v5 v6 v7 (ix2 ⟨128 + s.val, by omega⟩ d) = v2 (ix3 0 s d) := by
  unfold_payloads
  clean_types
  pointwise
  rw [dif_neg (by omega), dif_neg (by omega), dif_pos (by omega)]
  exact congrArg (fun q => v2 (ix3 0 q d)) (Fin.ext (by show 128 + s.val - 64 - 64 = s.val; omega))

/-- Column 3 of the eight, under the ones before it. -/
theorem rows_at3 (v0 v1 v2 v3 v4 v5 v6 v7 : Vec Ideal S1x64x2048 .bf16) (s : Fin 64) (d : Fin 2048) : k0_pay3 v0 v1 v2 v3 v4 v5 v6 v7 (ix2 ⟨192 + s.val, by omega⟩ d) = v3 (ix3 0 s d) := by
  unfold_payloads
  clean_types
  pointwise
  rw [dif_neg (by omega), dif_neg (by omega), dif_neg (by omega), dif_pos (by omega)]
  exact congrArg (fun q => v3 (ix3 0 q d)) (Fin.ext (by show 192 + s.val - 64 - 64 - 64 = s.val; omega))

/-- Column 4 of the eight, under the ones before it. -/
theorem rows_at4 (v0 v1 v2 v3 v4 v5 v6 v7 : Vec Ideal S1x64x2048 .bf16) (s : Fin 64) (d : Fin 2048) : k0_pay3 v0 v1 v2 v3 v4 v5 v6 v7 (ix2 ⟨256 + s.val, by omega⟩ d) = v4 (ix3 0 s d) := by
  unfold_payloads
  clean_types
  pointwise
  rw [dif_neg (by omega), dif_neg (by omega), dif_neg (by omega), dif_neg (by omega), dif_pos (by omega)]
  exact congrArg (fun q => v4 (ix3 0 q d)) (Fin.ext (by show 256 + s.val - 64 - 64 - 64 - 64 = s.val; omega))

/-- Column 5 of the eight, under the ones before it. -/
theorem rows_at5 (v0 v1 v2 v3 v4 v5 v6 v7 : Vec Ideal S1x64x2048 .bf16) (s : Fin 64) (d : Fin 2048) : k0_pay3 v0 v1 v2 v3 v4 v5 v6 v7 (ix2 ⟨320 + s.val, by omega⟩ d) = v5 (ix3 0 s d) := by
  unfold_payloads
  clean_types
  pointwise
  rw [dif_neg (by omega), dif_neg (by omega), dif_neg (by omega), dif_neg (by omega), dif_neg (by omega), dif_pos (by omega)]
  exact congrArg (fun q => v5 (ix3 0 q d)) (Fin.ext (by show 320 + s.val - 64 - 64 - 64 - 64 - 64 = s.val; omega))

/-- Column 6 of the eight, under the ones before it. -/
theorem rows_at6 (v0 v1 v2 v3 v4 v5 v6 v7 : Vec Ideal S1x64x2048 .bf16) (s : Fin 64) (d : Fin 2048) : k0_pay3 v0 v1 v2 v3 v4 v5 v6 v7 (ix2 ⟨384 + s.val, by omega⟩ d) = v6 (ix3 0 s d) := by
  unfold_payloads
  clean_types
  pointwise
  rw [dif_neg (by omega), dif_neg (by omega), dif_neg (by omega), dif_neg (by omega), dif_neg (by omega), dif_neg (by omega), dif_pos (by omega)]
  exact congrArg (fun q => v6 (ix3 0 q d)) (Fin.ext (by show 384 + s.val - 64 - 64 - 64 - 64 - 64 - 64 = s.val; omega))

/-- Column 7 of the eight, under the ones before it. -/
theorem rows_at7 (v0 v1 v2 v3 v4 v5 v6 v7 : Vec Ideal S1x64x2048 .bf16) (s : Fin 64) (d : Fin 2048) : k0_pay3 v0 v1 v2 v3 v4 v5 v6 v7 (ix2 ⟨448 + s.val, by omega⟩ d) = v7 (ix3 0 s d) := by
  unfold_payloads
  clean_types
  pointwise
  rw [dif_neg (by omega), dif_neg (by omega), dif_neg (by omega), dif_neg (by omega), dif_neg (by omega), dif_neg (by omega), dif_neg (by omega)]
  exact congrArg (fun q => v7 (ix3 0 q d)) (Fin.ext (by show 448 + s.val - 64 - 64 - 64 - 64 - 64 - 64 - 64 = s.val; omega))

/-- The first column, with its offset written out. -/
theorem rows_at00 (v0 v1 v2 v3 v4 v5 v6 v7 : Vec Ideal S1x64x2048 .bf16) (s : Fin 64) (d : Fin 2048) : k0_pay3 v0 v1 v2 v3 v4 v5 v6 v7 (ix2 ⟨64 * 0 + s.val, by omega⟩ d) = v0 (ix3 0 s d) := by
  refine Eq.trans ?_ (rows_at0 v0 v1 v2 v3 v4 v5 v6 v7 s d)
  simp only [Nat.mul_zero, Nat.zero_add]

/-- Group 0 times the cosines, at an index. -/
theorem a_at0 (v0 v1 v2 v3 v4 v5 v6 v7 : Vec Ideal S1x64x2048 .bf16) (t : Vec Ideal S256x512 .bf16) (i : Fin 512) (w : Fin 256) :
    k0_pay5 v0 v1 v2 v3 v4 v5 v6 v7 t (ix2 i w) = (∑ k : Fin 256, k0_pay3 v0 v1 v2 v3 v4 v5 v6 v7 (ix2 i ⟨k.val, by omega⟩) * t (ix2 k ⟨w.val, by omega⟩) : EReal) := by
  unfold k0_pay5 k0_pay4
  generalize k0_pay3 v0 v1 v2 v3 v4 v5 v6 v7 = v
  clean_types
  pointwise

/-- Group 1 times the cosines, at an index. -/
theorem a_at1 (v : Vec Ideal S512x2048 .bf16) (t : Vec Ideal S256x512 .bf16) (i : Fin 512) (w : Fin 256) :
    k0_pay9 v t (ix2 i w) = (∑ k : Fin 256, v (ix2 i ⟨256 + k.val, by omega⟩) * t (ix2 k ⟨w.val, by omega⟩) : EReal) := by
  unfold_payloads
  clean_types
  pointwise

/-- Group 2 times the cosines, at an index. -/
theorem a_at2 (v : Vec Ideal S512x2048 .bf16) (t : Vec Ideal S256x512 .bf16) (i : Fin 512) (w : Fin 256) :
    k0_pay12 v t (ix2 i w) = (∑ k : Fin 256, v (ix2 i ⟨512 + k.val, by omega⟩) * t (ix2 k ⟨w.val, by omega⟩) : EReal) := by
  unfold_payloads
  clean_types
  pointwise

/-- Group 3 times the cosines, at an index. -/
theorem a_at3 (v : Vec Ideal S512x2048 .bf16) (t : Vec Ideal S256x512 .bf16) (i : Fin 512) (w : Fin 256) :
    k0_pay15 v t (ix2 i w) = (∑ k : Fin 256, v (ix2 i ⟨768 + k.val, by omega⟩) * t (ix2 k ⟨w.val, by omega⟩) : EReal) := by
  unfold_payloads
  clean_types
  pointwise

/-- Group 4 times the cosines, at an index. -/
theorem a_at4 (v : Vec Ideal S512x2048 .bf16) (t : Vec Ideal S256x512 .bf16) (i : Fin 512) (w : Fin 256) :
    k0_pay19 v t (ix2 i w) = (∑ k : Fin 256, v (ix2 i ⟨1024 + k.val, by omega⟩) * t (ix2 k ⟨w.val, by omega⟩) : EReal) := by
  unfold_payloads
  clean_types
  pointwise

/-- Group 5 times the cosines, at an index. -/
theorem a_at5 (v : Vec Ideal S512x2048 .bf16) (t : Vec Ideal S256x512 .bf16) (i : Fin 512) (w : Fin 256) :
    k0_pay22 v t (ix2 i w) = (∑ k : Fin 256, v (ix2 i ⟨1280 + k.val, by omega⟩) * t (ix2 k ⟨w.val, by omega⟩) : EReal) := by
  unfold_payloads
  clean_types
  pointwise

/-- Group 6 times the cosines, at an index. -/
theorem a_at6 (v : Vec Ideal S512x2048 .bf16) (t : Vec Ideal S256x512 .bf16) (i : Fin 512) (w : Fin 256) :
    k0_pay25 v t (ix2 i w) = (∑ k : Fin 256, v (ix2 i ⟨1536 + k.val, by omega⟩) * t (ix2 k ⟨w.val, by omega⟩) : EReal) := by
  unfold_payloads
  clean_types
  pointwise

/-- Group 7 times the cosines, at an index. -/
theorem a_at7 (v : Vec Ideal S512x2048 .bf16) (t : Vec Ideal S256x512 .bf16) (i : Fin 512) (w : Fin 256) :
    k0_pay29 t (k0_pay27 v) (ix2 i w) = (∑ k : Fin 256, v (ix2 i ⟨1792 + k.val, by omega⟩) * t (ix2 k ⟨w.val, by omega⟩) : EReal) := by
  unfold_payloads
  clean_types
  pointwise

/-- Group 0 times the sines, at an index. -/
theorem b_at0 (v0 v1 v2 v3 v4 v5 v6 v7 : Vec Ideal S1x64x2048 .bf16) (t : Vec Ideal S256x512 .bf16) (i : Fin 512) (w : Fin 256) :
    k0_pay7 (k0_pay6 v0 v1 v2 v3 v4 v5 v6 v7 t) (ix2 i w) = (∑ k : Fin 256, k0_pay3 v0 v1 v2 v3 v4 v5 v6 v7 (ix2 i ⟨k.val, by omega⟩) * t (ix2 k ⟨256 + w.val, by omega⟩) : EReal) := by
  unfold k0_pay7 k0_pay6 k0_pay4
  generalize k0_pay3 v0 v1 v2 v3 v4 v5 v6 v7 = v
  clean_types
  pointwise

/-- Group 1 times the sines, at an index. -/
theorem b_at1 (v : Vec Ideal S512x2048 .bf16) (t : Vec Ideal S256x512 .bf16) (i : Fin 512) (w : Fin 256) :
    k0_pay10 v t (ix2 i w) = (∑ k : Fin 256, v (ix2 i ⟨256 + k.val, by omega⟩) * t (ix2 k ⟨256 + w.val, by omega⟩) : EReal) := by
  unfold_payloads
  clean_types
  pointwise

/-- Group 2 times the sines, at an index. -/
theorem b_at2 (v : Vec Ideal S512x2048 .bf16) (t : Vec Ideal S256x512 .bf16) (i : Fin 512) (w : Fin 256) :
    k0_pay13 v t (ix2 i w) = (∑ k : Fin 256, v (ix2 i ⟨512 + k.val, by omega⟩) * t (ix2 k ⟨256 + w.val, by omega⟩) : EReal) := by
  unfold_payloads
  clean_types
  pointwise

/-- Group 3 times the sines, at an index. -/
theorem b_at3 (v : Vec Ideal S512x2048 .bf16) (t : Vec Ideal S256x512 .bf16) (i : Fin 512) (w : Fin 256) :
    k0_pay17 (k0_pay16 v t) (ix2 i w) = (∑ k : Fin 256, v (ix2 i ⟨768 + k.val, by omega⟩) * t (ix2 k ⟨256 + w.val, by omega⟩) : EReal) := by
  unfold_payloads
  clean_types
  pointwise

/-- Group 4 times the sines, at an index. -/
theorem b_at4 (v : Vec Ideal S512x2048 .bf16) (t : Vec Ideal S256x512 .bf16) (i : Fin 512) (w : Fin 256) :
    k0_pay20 v t (ix2 i w) = (∑ k : Fin 256, v (ix2 i ⟨1024 + k.val, by omega⟩) * t (ix2 k ⟨256 + w.val, by omega⟩) : EReal) := by
  unfold_payloads
  clean_types
  pointwise

/-- Group 5 times the sines, at an index. -/
theorem b_at5 (v : Vec Ideal S512x2048 .bf16) (t : Vec Ideal S256x512 .bf16) (i : Fin 512) (w : Fin 256) :
    k0_pay23 v t (ix2 i w) = (∑ k : Fin 256, v (ix2 i ⟨1280 + k.val, by omega⟩) * t (ix2 k ⟨256 + w.val, by omega⟩) : EReal) := by
  unfold_payloads
  clean_types
  pointwise

/-- Group 6 times the sines, at an index. -/
theorem b_at6 (v : Vec Ideal S512x2048 .bf16) (t : Vec Ideal S256x512 .bf16) (i : Fin 512) (w : Fin 256) :
    k0_pay26 v t (ix2 i w) = (∑ k : Fin 256, v (ix2 i ⟨1536 + k.val, by omega⟩) * t (ix2 k ⟨256 + w.val, by omega⟩) : EReal) := by
  unfold_payloads
  clean_types
  pointwise

/-- Group 7 times the sines, at an index. -/
theorem b_at7 (v : Vec Ideal S512x2048 .bf16) (t : Vec Ideal S256x512 .bf16) (i : Fin 512) (w : Fin 256) :
    k0_pay30 t (k0_pay27 v) (ix2 i w) = (∑ k : Fin 256, v (ix2 i ⟨1792 + k.val, by omega⟩) * t (ix2 k ⟨256 + w.val, by omega⟩) : EReal) := by
  unfold_payloads
  clean_types
  pointwise

/-- The product stored for a column, at an index of the real part. -/
theorem real_at (a b : Vec Ideal S64x2048 .bf16) (m : Vec Ideal S1x128x128 .bf16) (k : Fin 64) (d : Fin 2048) :
    k0_pay31 a b m (ix4 0 0 k d) = (∑ s : Fin 64, m (ix3 0 ⟨k.val, by omega⟩ ⟨s.val, by omega⟩) * a (ix2 s d)
      + ∑ s : Fin 64, m (ix3 0 ⟨k.val, by omega⟩ ⟨64 + s.val, by omega⟩) * b (ix2 s d) : EReal) := by
  unfold_payloads
  clean_types
  pointwise

/-- The product stored for a column, at an index of the imaginary part. -/
theorem imag_at (a b : Vec Ideal S64x2048 .bf16) (m : Vec Ideal S1x128x128 .bf16) (k : Fin 64) (d : Fin 2048) :
    k0_pay31 a b m (ix4 0 1 k d) = (∑ s : Fin 64, m (ix3 0 ⟨64 + k.val, by omega⟩ ⟨s.val, by omega⟩) * a (ix2 s d)
      + ∑ s : Fin 64, m (ix3 0 ⟨64 + k.val, by omega⟩ ⟨64 + s.val, by omega⟩) * b (ix2 s d) : EReal) := by
  unfold_payloads
  clean_types
  pointwise

/-- The product stored for a column, at an index. -/
theorem pay_at (a b : Vec Ideal S64x2048 .bf16) (m : Vec Ideal S1x128x128 .bf16) (p : Fin 2) (k : Fin 64) (d : Fin 2048) :
    k0_pay31 a b m (ix4 0 p k d) = (∑ s : Fin 64, m (ix3 0 ⟨64 * p.val + k.val, by omega⟩ ⟨s.val, by omega⟩) * a (ix2 s d)
      + ∑ s : Fin 64, m (ix3 0 ⟨64 * p.val + k.val, by omega⟩ ⟨64 + s.val, by omega⟩) * b (ix2 s d) : EReal) := by
  match p with
  | ⟨0, _⟩ => refine (real_at a b m k d).trans ?_; simp only [Nat.mul_zero, Nat.zero_add]
  | ⟨1, _⟩ => exact imag_at a b m k d

section

variable (arg2 : Memref sig .tc .vmem S256x512 .bf16) (harg2 : arg2.IsWhole) (arg3 : Memref sig .tc .vmem S8x128x128 .bf16) (harg3 : arg3.IsWhole) (arg4 : Memref sig .tc .vmem S1x64x16384 .bf16) (harg4 : arg4.IsWhole) (arg5 : Memref sig .tc .vmem S1x2x64x16384 .bf16) (harg5 : arg5.IsWhole) (arg6 : Memref sig .tc .vmem S512x2048 .bf16) (harg6 : arg6.IsWhole) (arg7 : Memref sig .tc .vmem S512x2048 .bf16) (harg7 : arg7.IsWhole)
    (x0 : Vec Ideal S256x512 .bf16) (x1 : Vec Ideal S8x128x128 .bf16) (x2 : Vec Ideal S1x64x16384 .bf16)

/-- A load of one column of positions reads that column. -/
theorem load2 (r : Fin 8) (inb : ∀ a, (![0, 0, 2048 * r.val] : Fin 3 → Nat) a + S1x64x2048.size a ≤ S1x64x16384.size a) (s : Fin 64) (d : Fin 2048) :
    View.readAt (Elt Ideal) arg4.view (Rect.unit (s := S1x64x16384) ![0, 0, 2048 * r.val] S1x64x2048.size inb).toLoadRect (harg4.unread x2) (ix3 0 s d)
      = x2 (ix3 0 s ⟨2048 * r.val + d.val, by omega⟩) := by
  rw [Memref.IsWhole.readAt_unread]
  refine congrArg x2 (funext fun a => Fin.ext ?_)
  match a with
  | ⟨0, _⟩ => rfl
  | ⟨1, _⟩ => show 0 + 1 * s.val = s.val; omega
  | ⟨2, _⟩ => show 2048 * r.val + 1 * d.val = 2048 * r.val + d.val; omega

/-- A load of the whole table reads the table. -/
theorem load0 (k : Fin 256) (q : Fin 512) : (View.readAt (Elt Ideal) arg2.view (Rect.unit (s := S256x512) ![0, 0] S256x512.size inb_S256x512_S256x512_0_0).toLoadRect (harg2.unread x0)) (ix2 k q) = x0 (ix2 k q) := by
  rw [Memref.IsWhole.readAt_unread]
  refine congrArg x0 (funext fun a => Fin.ext ?_)
  match a with
  | ⟨0, _⟩ => show 0 + 1 * k.val = k.val; omega
  | ⟨1, _⟩ => show 0 + 1 * q.val = q.val; omega

/-- A load of one column's matrix reads that matrix. -/
theorem load1 (r : Fin 8) (inb : ∀ a, (![r.val, 0, 0] : Fin 3 → Nat) a + S1x128x128.size a ≤ S8x128x128.size a) (k q : Fin 128) :
    View.readAt (Elt Ideal) arg3.view (Rect.unit (s := S8x128x128) ![r.val, 0, 0] S1x128x128.size inb).toLoadRect (harg3.unread x1) (ix3 0 k q)
      = x1 (ix3 r k q) := by
  rw [Memref.IsWhole.readAt_unread]
  refine congrArg x1 (funext fun a => Fin.ext ?_)
  match a with
  | ⟨0, _⟩ => show r.val + 1 * 0 = r.val; omega
  | ⟨1, _⟩ => show 0 + 1 * k.val = k.val; omega
  | ⟨2, _⟩ => show 0 + 1 * q.val = q.val; omega

/-- The eight columns one under the other, as the body lays them. -/
def rowsLoad : Vec Ideal S512x2048 .bf16 :=
  k0_pay3 (View.readAt (Elt Ideal) arg4.view (Rect.unit (s := S1x64x16384) ![0, 0, 0] S1x64x2048.size inb_S1x64x16384_S1x64x2048_0_0_0).toLoadRect (harg4.unread x2))
      (View.readAt (Elt Ideal) arg4.view (Rect.unit (s := S1x64x16384) ![0, 0, 2048] S1x64x2048.size inb_S1x64x16384_S1x64x2048_0_0_2048).toLoadRect (harg4.unread x2))
      (View.readAt (Elt Ideal) arg4.view (Rect.unit (s := S1x64x16384) ![0, 0, 4096] S1x64x2048.size inb_S1x64x16384_S1x64x2048_0_0_4096).toLoadRect (harg4.unread x2))
      (View.readAt (Elt Ideal) arg4.view (Rect.unit (s := S1x64x16384) ![0, 0, 6144] S1x64x2048.size inb_S1x64x16384_S1x64x2048_0_0_6144).toLoadRect (harg4.unread x2))
      (View.readAt (Elt Ideal) arg4.view (Rect.unit (s := S1x64x16384) ![0, 0, 8192] S1x64x2048.size inb_S1x64x16384_S1x64x2048_0_0_8192).toLoadRect (harg4.unread x2))
      (View.readAt (Elt Ideal) arg4.view (Rect.unit (s := S1x64x16384) ![0, 0, 10240] S1x64x2048.size inb_S1x64x16384_S1x64x2048_0_0_10240).toLoadRect (harg4.unread x2))
      (View.readAt (Elt Ideal) arg4.view (Rect.unit (s := S1x64x16384) ![0, 0, 12288] S1x64x2048.size inb_S1x64x16384_S1x64x2048_0_0_12288).toLoadRect (harg4.unread x2))
      (View.readAt (Elt Ideal) arg4.view (Rect.unit (s := S1x64x16384) ![0, 0, 14336] S1x64x2048.size inb_S1x64x16384_S1x64x2048_0_0_14336).toLoadRect (harg4.unread x2))

/-- Row `64 r + s` of them is position `s` of column `r`. -/
theorem rows_rs (r : Fin 8) (s : Fin 64) (d : Fin 2048) : rowsLoad arg4 harg4 x2 (ix2 ⟨64 * r.val + s.val, by omega⟩ d)
    = x2 (ix3 0 s ⟨2048 * r.val + d.val, by omega⟩) := by
  unfold rowsLoad
  match r with
  | ⟨0, h⟩ => exact (rows_at00 _ _ _ _ _ _ _ _ s d).trans (load2 arg4 harg4 x2 ⟨0, h⟩ inb_S1x64x16384_S1x64x2048_0_0_0 s d)
  | ⟨1, h⟩ => exact (rows_at1 _ _ _ _ _ _ _ _ s d).trans (load2 arg4 harg4 x2 ⟨1, h⟩ inb_S1x64x16384_S1x64x2048_0_0_2048 s d)
  | ⟨2, h⟩ => exact (rows_at2 _ _ _ _ _ _ _ _ s d).trans (load2 arg4 harg4 x2 ⟨2, h⟩ inb_S1x64x16384_S1x64x2048_0_0_4096 s d)
  | ⟨3, h⟩ => exact (rows_at3 _ _ _ _ _ _ _ _ s d).trans (load2 arg4 harg4 x2 ⟨3, h⟩ inb_S1x64x16384_S1x64x2048_0_0_6144 s d)
  | ⟨4, h⟩ => exact (rows_at4 _ _ _ _ _ _ _ _ s d).trans (load2 arg4 harg4 x2 ⟨4, h⟩ inb_S1x64x16384_S1x64x2048_0_0_8192 s d)
  | ⟨5, h⟩ => exact (rows_at5 _ _ _ _ _ _ _ _ s d).trans (load2 arg4 harg4 x2 ⟨5, h⟩ inb_S1x64x16384_S1x64x2048_0_0_10240 s d)
  | ⟨6, h⟩ => exact (rows_at6 _ _ _ _ _ _ _ _ s d).trans (load2 arg4 harg4 x2 ⟨6, h⟩ inb_S1x64x16384_S1x64x2048_0_0_12288 s d)
  | ⟨7, h⟩ => exact (rows_at7 _ _ _ _ _ _ _ _ s d).trans (load2 arg4 harg4 x2 ⟨7, h⟩ inb_S1x64x16384_S1x64x2048_0_0_14336 s d)

/-- A stored piece of a scratch buffer holds its group of the channel transform. -/
theorem chanPiece (o : Nat) (ho : o ≤ 256) (g : Fin 8) (inb : ∀ a, (![0, 256 * g.val] : Fin 2 → Nat) a + S512x256.size a ≤ S512x2048.size a)
    (p : Vec Ideal S512x256 .bf16)
    (hp : ∀ (i : Fin 512) (w : Fin 256), p (ix2 i w) = (∑ k : Fin 256, (rowsLoad arg4 harg4 x2) (ix2 i ⟨256 * g.val + k.val, by omega⟩) * (View.readAt (Elt Ideal) arg2.view (Rect.unit (s := S256x512) ![0, 0] S256x512.size inb_S256x512_S256x512_0_0).toLoadRect (harg2.unread x0)) (ix2 k ⟨o + w.val, by omega⟩) : EReal))
    (x : S512x256.Idx) : p x = chanAll o ho x0 x2 ((Rect.unit (s := S512x2048) ![0, 256 * g.val] S512x256.size inb).emb x) := by
  obtain ⟨r, s, w, rfl⟩ : ∃ (r : Fin 8) (s : Fin 64) (w : Fin 256), x = ix2 ⟨64 * r.val + s.val, by omega⟩ w := by
    have h : (x 0).val < 512 := (x 0).isLt
    refine ⟨⟨(x 0).val / 64, by omega⟩, ⟨(x 0).val % 64, by omega⟩, x 1, funext fun a => Fin.ext ?_⟩
    match a with
    | ⟨0, _⟩ => show (x 0).val = 64 * ((x 0).val / 64) + (x 0).val % 64; omega
    | ⟨1, _⟩ => rfl
  have e : (Rect.unit (s := S512x2048) ![0, 256 * g.val] S512x256.size inb).emb (ix2 ⟨64 * r.val + s.val, by omega⟩ w)
      = ix2 ⟨64 * r.val + s.val, by omega⟩ ⟨256 * g.val + w.val, by omega⟩ := by
    refine funext fun a => Fin.ext ?_
    match a with
    | ⟨0, _⟩ => show 0 + 1 * (64 * r.val + s.val) = 64 * r.val + s.val; omega
    | ⟨1, _⟩ => show 256 * g.val + 1 * w.val = 256 * g.val + w.val; omega
  rw [hp, e]
  have a1 : (64 * r.val + s.val) / 64 = r.val := by omega
  have a2 : (64 * r.val + s.val) % 64 = s.val := by omega
  have a3 : (256 * g.val + w.val) / 256 = g.val := by omega
  have a4 : (256 * g.val + w.val) % 256 = w.val := by omega
  unfold chanAll chan
  simp only [ix2_0, ix2_1, a1, a2, a3, a4]
  exact Finset.sum_congr rfl fun k _ => congrArg₂ (· * ·) (rows_rs arg4 harg4 x2 r s _) (load0 arg2 harg2 x0 k _)

/-- The pieces stored in the scratch buffer of the cosines, last first. -/
def aPieces : List (View.Piece (Elt Ideal) S512x2048 .bf16) :=
  [⟨Rect.unit (s := S512x2048) ![0, 1792] S512x256.size inb_S512x2048_S512x256_0_1792, k0_pay29 (View.readAt (Elt Ideal) arg2.view (Rect.unit (s := S256x512) ![0, 0] S256x512.size inb_S256x512_S256x512_0_0).toLoadRect (harg2.unread x0)) (k0_pay27 (rowsLoad arg4 harg4 x2))⟩,
    ⟨Rect.unit (s := S512x2048) ![0, 1536] S512x256.size inb_S512x2048_S512x256_0_1536, k0_pay25 (rowsLoad arg4 harg4 x2) (View.readAt (Elt Ideal) arg2.view (Rect.unit (s := S256x512) ![0, 0] S256x512.size inb_S256x512_S256x512_0_0).toLoadRect (harg2.unread x0))⟩,
    ⟨Rect.unit (s := S512x2048) ![0, 1280] S512x256.size inb_S512x2048_S512x256_0_1280, k0_pay22 (rowsLoad arg4 harg4 x2) (View.readAt (Elt Ideal) arg2.view (Rect.unit (s := S256x512) ![0, 0] S256x512.size inb_S256x512_S256x512_0_0).toLoadRect (harg2.unread x0))⟩,
    ⟨Rect.unit (s := S512x2048) ![0, 1024] S512x256.size inb_S512x2048_S512x256_0_1024, k0_pay19 (rowsLoad arg4 harg4 x2) (View.readAt (Elt Ideal) arg2.view (Rect.unit (s := S256x512) ![0, 0] S256x512.size inb_S256x512_S256x512_0_0).toLoadRect (harg2.unread x0))⟩,
    ⟨Rect.unit (s := S512x2048) ![0, 768] S512x256.size inb_S512x2048_S512x256_0_768, k0_pay15 (rowsLoad arg4 harg4 x2) (View.readAt (Elt Ideal) arg2.view (Rect.unit (s := S256x512) ![0, 0] S256x512.size inb_S256x512_S256x512_0_0).toLoadRect (harg2.unread x0))⟩,
    ⟨Rect.unit (s := S512x2048) ![0, 512] S512x256.size inb_S512x2048_S512x256_0_512, k0_pay12 (rowsLoad arg4 harg4 x2) (View.readAt (Elt Ideal) arg2.view (Rect.unit (s := S256x512) ![0, 0] S256x512.size inb_S256x512_S256x512_0_0).toLoadRect (harg2.unread x0))⟩,
    ⟨Rect.unit (s := S512x2048) ![0, 256] S512x256.size inb_S512x2048_S512x256_0_256, k0_pay9 (rowsLoad arg4 harg4 x2) (View.readAt (Elt Ideal) arg2.view (Rect.unit (s := S256x512) ![0, 0] S256x512.size inb_S256x512_S256x512_0_0).toLoadRect (harg2.unread x0))⟩,
    ⟨Rect.unit (s := S512x2048) ![0, 0] S512x256.size inb_S512x2048_S512x256_0_0, k0_pay5 (View.readAt (Elt Ideal) arg4.view (Rect.unit (s := S1x64x16384) ![0, 0, 0] S1x64x2048.size inb_S1x64x16384_S1x64x2048_0_0_0).toLoadRect (harg4.unread x2))
      (View.readAt (Elt Ideal) arg4.view (Rect.unit (s := S1x64x16384) ![0, 0, 2048] S1x64x2048.size inb_S1x64x16384_S1x64x2048_0_0_2048).toLoadRect (harg4.unread x2))
      (View.readAt (Elt Ideal) arg4.view (Rect.unit (s := S1x64x16384) ![0, 0, 4096] S1x64x2048.size inb_S1x64x16384_S1x64x2048_0_0_4096).toLoadRect (harg4.unread x2))
      (View.readAt (Elt Ideal) arg4.view (Rect.unit (s := S1x64x16384) ![0, 0, 6144] S1x64x2048.size inb_S1x64x16384_S1x64x2048_0_0_6144).toLoadRect (harg4.unread x2))
      (View.readAt (Elt Ideal) arg4.view (Rect.unit (s := S1x64x16384) ![0, 0, 8192] S1x64x2048.size inb_S1x64x16384_S1x64x2048_0_0_8192).toLoadRect (harg4.unread x2))
      (View.readAt (Elt Ideal) arg4.view (Rect.unit (s := S1x64x16384) ![0, 0, 10240] S1x64x2048.size inb_S1x64x16384_S1x64x2048_0_0_10240).toLoadRect (harg4.unread x2))
      (View.readAt (Elt Ideal) arg4.view (Rect.unit (s := S1x64x16384) ![0, 0, 12288] S1x64x2048.size inb_S1x64x16384_S1x64x2048_0_0_12288).toLoadRect (harg4.unread x2))
      (View.readAt (Elt Ideal) arg4.view (Rect.unit (s := S1x64x16384) ![0, 0, 14336] S1x64x2048.size inb_S1x64x16384_S1x64x2048_0_0_14336).toLoadRect (harg4.unread x2)) (View.readAt (Elt Ideal) arg2.view (Rect.unit (s := S256x512) ![0, 0] S256x512.size inb_S256x512_S256x512_0_0).toLoadRect (harg2.unread x0))⟩]

/-- A load of one column's rows of the scratch buffer of the cosines reads its channel transform. -/
theorem aLoad (r : Fin 8) (inb : ∀ a, (![64 * r.val, 0] : Fin 2 → Nat) a + S64x2048.size a ≤ S512x2048.size a) (s : Fin 64) (d : Fin 2048) :
    (arg6.view.readCov (aPieces arg2 harg2 arg4 harg4 x0 x2) (Rect.unit (s := S512x2048) ![64 * r.val, 0] S64x2048.size inb).toLoadRect : Vec Ideal S64x2048 .bf16) (ix2 s d)
      = chan 0 (by omega) x0 x2 r s d := by
  have hi : (Rect.unit (s := S512x2048) ![64 * r.val, 0] S64x2048.size inb).toLoadRect.idx (ix2 s d) = ix2 ⟨64 * r.val + s.val, by omega⟩ d := by
    refine funext fun a => Fin.ext ?_
    match a with
    | ⟨0, _⟩ => show 64 * r.val + 1 * s.val = 64 * r.val + s.val; omega
    | ⟨1, _⟩ => show 0 + 1 * d.val = d.val; omega
  have a1 : (64 * r.val + s.val) / 64 = r.val := by omega
  have a2 : (64 * r.val + s.val) % 64 = s.val := by omega
  have e' : chanAll 0 (by omega) x0 x2 (ix2 ⟨64 * r.val + s.val, by omega⟩ d) = chan 0 (by omega) x0 x2 r s d := by
    unfold chanAll
    simp only [ix2_0, ix2_1, a1, a2]
  refine (View.read_writes_apply_of_pieces arg6.view _ (chanAll 0 (by omega) x0 x2) (aPieces arg2 harg2 arg4 harg4 x0 x2) ?_ _
    (View.cover_of_tiledL (aPieces arg2 harg2 arg4 harg4 x0 x2) S512x256.size (by sl_kernel_rfl) _)).trans ((congrArg (chanAll 0 (by omega) x0 x2) hi).trans e')
  unfold aPieces
  refine List.forall_mem_cons.2 ⟨fun x => chanPiece arg2 harg2 arg4 harg4 x0 x2 0 (by omega) 7 inb_S512x2048_S512x256_0_1792 _ (fun i w => ?_) x, ?_⟩
  · refine (a_at7 _ _ i w).trans ?_; simp only [Fin.val_zero, Nat.mul_zero, Nat.zero_add]; rfl
  refine List.forall_mem_cons.2 ⟨fun x => chanPiece arg2 harg2 arg4 harg4 x0 x2 0 (by omega) 6 inb_S512x2048_S512x256_0_1536 _ (fun i w => ?_) x, ?_⟩
  · refine (a_at6 _ _ i w).trans ?_; simp only [Fin.val_zero, Nat.mul_zero, Nat.zero_add]; rfl
  refine List.forall_mem_cons.2 ⟨fun x => chanPiece arg2 harg2 arg4 harg4 x0 x2 0 (by omega) 5 inb_S512x2048_S512x256_0_1280 _ (fun i w => ?_) x, ?_⟩
  · refine (a_at5 _ _ i w).trans ?_; simp only [Fin.val_zero, Nat.mul_zero, Nat.zero_add]; rfl
  refine List.forall_mem_cons.2 ⟨fun x => chanPiece arg2 harg2 arg4 harg4 x0 x2 0 (by omega) 4 inb_S512x2048_S512x256_0_1024 _ (fun i w => ?_) x, ?_⟩
  · refine (a_at4 _ _ i w).trans ?_; simp only [Fin.val_zero, Nat.mul_zero, Nat.zero_add]; rfl
  refine List.forall_mem_cons.2 ⟨fun x => chanPiece arg2 harg2 arg4 harg4 x0 x2 0 (by omega) 3 inb_S512x2048_S512x256_0_768 _ (fun i w => ?_) x, ?_⟩
  · refine (a_at3 _ _ i w).trans ?_; simp only [Fin.val_zero, Nat.mul_zero, Nat.zero_add]; rfl
  refine List.forall_mem_cons.2 ⟨fun x => chanPiece arg2 harg2 arg4 harg4 x0 x2 0 (by omega) 2 inb_S512x2048_S512x256_0_512 _ (fun i w => ?_) x, ?_⟩
  · refine (a_at2 _ _ i w).trans ?_; simp only [Fin.val_zero, Nat.mul_zero, Nat.zero_add]; rfl
  refine List.forall_mem_cons.2 ⟨fun x => chanPiece arg2 harg2 arg4 harg4 x0 x2 0 (by omega) 1 inb_S512x2048_S512x256_0_256 _ (fun i w => ?_) x, ?_⟩
  · refine (a_at1 _ _ i w).trans ?_; simp only [Fin.val_zero, Nat.mul_zero, Nat.zero_add]; rfl
  refine List.forall_mem_cons.2 ⟨fun x => chanPiece arg2 harg2 arg4 harg4 x0 x2 0 (by omega) 0 inb_S512x2048_S512x256_0_0 _ (fun i w => ?_) x, ?_⟩
  · refine (a_at0 _ _ _ _ _ _ _ _ _ i w).trans ?_; simp only [Fin.val_zero, Nat.mul_zero, Nat.zero_add]; rfl
  exact fun _ h => absurd h List.not_mem_nil

/-- The pieces stored in the scratch buffer of the sines, last first. -/
def bPieces : List (View.Piece (Elt Ideal) S512x2048 .bf16) :=
  [⟨Rect.unit (s := S512x2048) ![0, 1792] S512x256.size inb_S512x2048_S512x256_0_1792, k0_pay30 (View.readAt (Elt Ideal) arg2.view (Rect.unit (s := S256x512) ![0, 0] S256x512.size inb_S256x512_S256x512_0_0).toLoadRect (harg2.unread x0)) (k0_pay27 (rowsLoad arg4 harg4 x2))⟩,
    ⟨Rect.unit (s := S512x2048) ![0, 1536] S512x256.size inb_S512x2048_S512x256_0_1536, k0_pay26 (rowsLoad arg4 harg4 x2) (View.readAt (Elt Ideal) arg2.view (Rect.unit (s := S256x512) ![0, 0] S256x512.size inb_S256x512_S256x512_0_0).toLoadRect (harg2.unread x0))⟩,
    ⟨Rect.unit (s := S512x2048) ![0, 1280] S512x256.size inb_S512x2048_S512x256_0_1280, k0_pay23 (rowsLoad arg4 harg4 x2) (View.readAt (Elt Ideal) arg2.view (Rect.unit (s := S256x512) ![0, 0] S256x512.size inb_S256x512_S256x512_0_0).toLoadRect (harg2.unread x0))⟩,
    ⟨Rect.unit (s := S512x2048) ![0, 1024] S512x256.size inb_S512x2048_S512x256_0_1024, k0_pay20 (rowsLoad arg4 harg4 x2) (View.readAt (Elt Ideal) arg2.view (Rect.unit (s := S256x512) ![0, 0] S256x512.size inb_S256x512_S256x512_0_0).toLoadRect (harg2.unread x0))⟩,
    ⟨Rect.unit (s := S512x2048) ![0, 768] S512x256.size inb_S512x2048_S512x256_0_768, k0_pay17 (k0_pay16 (rowsLoad arg4 harg4 x2) (View.readAt (Elt Ideal) arg2.view (Rect.unit (s := S256x512) ![0, 0] S256x512.size inb_S256x512_S256x512_0_0).toLoadRect (harg2.unread x0)))⟩,
    ⟨Rect.unit (s := S512x2048) ![0, 512] S512x256.size inb_S512x2048_S512x256_0_512, k0_pay13 (rowsLoad arg4 harg4 x2) (View.readAt (Elt Ideal) arg2.view (Rect.unit (s := S256x512) ![0, 0] S256x512.size inb_S256x512_S256x512_0_0).toLoadRect (harg2.unread x0))⟩,
    ⟨Rect.unit (s := S512x2048) ![0, 256] S512x256.size inb_S512x2048_S512x256_0_256, k0_pay10 (rowsLoad arg4 harg4 x2) (View.readAt (Elt Ideal) arg2.view (Rect.unit (s := S256x512) ![0, 0] S256x512.size inb_S256x512_S256x512_0_0).toLoadRect (harg2.unread x0))⟩,
    ⟨Rect.unit (s := S512x2048) ![0, 0] S512x256.size inb_S512x2048_S512x256_0_0, k0_pay7 (k0_pay6 (View.readAt (Elt Ideal) arg4.view (Rect.unit (s := S1x64x16384) ![0, 0, 0] S1x64x2048.size inb_S1x64x16384_S1x64x2048_0_0_0).toLoadRect (harg4.unread x2))
      (View.readAt (Elt Ideal) arg4.view (Rect.unit (s := S1x64x16384) ![0, 0, 2048] S1x64x2048.size inb_S1x64x16384_S1x64x2048_0_0_2048).toLoadRect (harg4.unread x2))
      (View.readAt (Elt Ideal) arg4.view (Rect.unit (s := S1x64x16384) ![0, 0, 4096] S1x64x2048.size inb_S1x64x16384_S1x64x2048_0_0_4096).toLoadRect (harg4.unread x2))
      (View.readAt (Elt Ideal) arg4.view (Rect.unit (s := S1x64x16384) ![0, 0, 6144] S1x64x2048.size inb_S1x64x16384_S1x64x2048_0_0_6144).toLoadRect (harg4.unread x2))
      (View.readAt (Elt Ideal) arg4.view (Rect.unit (s := S1x64x16384) ![0, 0, 8192] S1x64x2048.size inb_S1x64x16384_S1x64x2048_0_0_8192).toLoadRect (harg4.unread x2))
      (View.readAt (Elt Ideal) arg4.view (Rect.unit (s := S1x64x16384) ![0, 0, 10240] S1x64x2048.size inb_S1x64x16384_S1x64x2048_0_0_10240).toLoadRect (harg4.unread x2))
      (View.readAt (Elt Ideal) arg4.view (Rect.unit (s := S1x64x16384) ![0, 0, 12288] S1x64x2048.size inb_S1x64x16384_S1x64x2048_0_0_12288).toLoadRect (harg4.unread x2))
      (View.readAt (Elt Ideal) arg4.view (Rect.unit (s := S1x64x16384) ![0, 0, 14336] S1x64x2048.size inb_S1x64x16384_S1x64x2048_0_0_14336).toLoadRect (harg4.unread x2)) (View.readAt (Elt Ideal) arg2.view (Rect.unit (s := S256x512) ![0, 0] S256x512.size inb_S256x512_S256x512_0_0).toLoadRect (harg2.unread x0)))⟩]

/-- A load of one column's rows of the scratch buffer of the sines reads its channel transform. -/
theorem bLoad (r : Fin 8) (inb : ∀ a, (![64 * r.val, 0] : Fin 2 → Nat) a + S64x2048.size a ≤ S512x2048.size a) (s : Fin 64) (d : Fin 2048) :
    (arg7.view.readCov (bPieces arg2 harg2 arg4 harg4 x0 x2) (Rect.unit (s := S512x2048) ![64 * r.val, 0] S64x2048.size inb).toLoadRect : Vec Ideal S64x2048 .bf16) (ix2 s d)
      = chan 256 (by omega) x0 x2 r s d := by
  have hi : (Rect.unit (s := S512x2048) ![64 * r.val, 0] S64x2048.size inb).toLoadRect.idx (ix2 s d) = ix2 ⟨64 * r.val + s.val, by omega⟩ d := by
    refine funext fun a => Fin.ext ?_
    match a with
    | ⟨0, _⟩ => show 64 * r.val + 1 * s.val = 64 * r.val + s.val; omega
    | ⟨1, _⟩ => show 0 + 1 * d.val = d.val; omega
  have a1 : (64 * r.val + s.val) / 64 = r.val := by omega
  have a2 : (64 * r.val + s.val) % 64 = s.val := by omega
  have e' : chanAll 256 (by omega) x0 x2 (ix2 ⟨64 * r.val + s.val, by omega⟩ d) = chan 256 (by omega) x0 x2 r s d := by
    unfold chanAll
    simp only [ix2_0, ix2_1, a1, a2]
  refine (View.read_writes_apply_of_pieces arg7.view _ (chanAll 256 (by omega) x0 x2) (bPieces arg2 harg2 arg4 harg4 x0 x2) ?_ _
    (View.cover_of_tiledL (bPieces arg2 harg2 arg4 harg4 x0 x2) S512x256.size (by sl_kernel_rfl) _)).trans ((congrArg (chanAll 256 (by omega) x0 x2) hi).trans e')
  unfold bPieces
  refine List.forall_mem_cons.2 ⟨fun x => chanPiece arg2 harg2 arg4 harg4 x0 x2 256 (by omega) 7 inb_S512x2048_S512x256_0_1792 _ (fun i w => ?_) x, ?_⟩
  · exact b_at7 _ _ i w
  refine List.forall_mem_cons.2 ⟨fun x => chanPiece arg2 harg2 arg4 harg4 x0 x2 256 (by omega) 6 inb_S512x2048_S512x256_0_1536 _ (fun i w => ?_) x, ?_⟩
  · exact b_at6 _ _ i w
  refine List.forall_mem_cons.2 ⟨fun x => chanPiece arg2 harg2 arg4 harg4 x0 x2 256 (by omega) 5 inb_S512x2048_S512x256_0_1280 _ (fun i w => ?_) x, ?_⟩
  · exact b_at5 _ _ i w
  refine List.forall_mem_cons.2 ⟨fun x => chanPiece arg2 harg2 arg4 harg4 x0 x2 256 (by omega) 4 inb_S512x2048_S512x256_0_1024 _ (fun i w => ?_) x, ?_⟩
  · exact b_at4 _ _ i w
  refine List.forall_mem_cons.2 ⟨fun x => chanPiece arg2 harg2 arg4 harg4 x0 x2 256 (by omega) 3 inb_S512x2048_S512x256_0_768 _ (fun i w => ?_) x, ?_⟩
  · exact b_at3 _ _ i w
  refine List.forall_mem_cons.2 ⟨fun x => chanPiece arg2 harg2 arg4 harg4 x0 x2 256 (by omega) 2 inb_S512x2048_S512x256_0_512 _ (fun i w => ?_) x, ?_⟩
  · exact b_at2 _ _ i w
  refine List.forall_mem_cons.2 ⟨fun x => chanPiece arg2 harg2 arg4 harg4 x0 x2 256 (by omega) 1 inb_S512x2048_S512x256_0_256 _ (fun i w => ?_) x, ?_⟩
  · exact b_at1 _ _ i w
  refine List.forall_mem_cons.2 ⟨fun x => chanPiece arg2 harg2 arg4 harg4 x0 x2 256 (by omega) 0 inb_S512x2048_S512x256_0_0 _ (fun i w => ?_) x, ?_⟩
  · refine (b_at0 _ _ _ _ _ _ _ _ _ i w).trans ?_; simp only [Fin.val_zero, Nat.mul_zero, Nat.zero_add]; rfl
  exact fun _ h => absurd h List.not_mem_nil

/-- The output block: for each column, its matrix times the two channel transforms. -/
def blockOut (y : S1x2x64x16384.Idx) : EReal :=
  have h1 : (y 1).val < 2 := (y 1).isLt
  have h2 : (y 2).val < 64 := (y 2).isLt
  have h3 : (y 3).val < 16384 := (y 3).isLt
  ∑ s : Fin 64, x1 (ix3 ⟨(y 3).val / 2048, by omega⟩ ⟨64 * (y 1).val + (y 2).val, by omega⟩ ⟨s.val, by omega⟩)
      * chan 0 (by omega) x0 x2 ⟨(y 3).val / 2048, by omega⟩ s ⟨(y 3).val % 2048, by omega⟩
    + ∑ s : Fin 64, x1 (ix3 ⟨(y 3).val / 2048, by omega⟩ ⟨64 * (y 1).val + (y 2).val, by omega⟩ ⟨64 + s.val, by omega⟩)
      * chan 256 (by omega) x0 x2 ⟨(y 3).val / 2048, by omega⟩ s ⟨(y 3).val % 2048, by omega⟩

/-- The pieces the body stores in the output block, last first. -/
theorem run_eq (c : Dev nD) (i : grid0.Coords) : (kernelRun0_A c i arg2 harg2 arg3 harg3 arg4 harg4 arg5 harg5 arg6 harg6 arg7 harg7 x0 x1 x2).1 =
    [⟨Rect.unit (s := S1x2x64x16384) ![0, 0, 0, 14336] S1x2x64x2048.size inb_S1x2x64x16384_S1x2x64x2048_0_0_0_14336, k0_pay2 (arg6.view.readCov (aPieces arg2 harg2 arg4 harg4 x0 x2) (Rect.unit (s := S512x2048) ![448, 0] S64x2048.size inb_S512x2048_S64x2048_448_0).toLoadRect) (arg7.view.readCov (bPieces arg2 harg2 arg4 harg4 x0 x2) (Rect.unit (s := S512x2048) ![448, 0] S64x2048.size inb_S512x2048_S64x2048_448_0).toLoadRect) (View.readAt (Elt Ideal) arg3.view (Rect.unit (s := S8x128x128) ![7, 0, 0] S1x128x128.size inb_S8x128x128_S1x128x128_7_0_0).toLoadRect (harg3.unread x1))⟩,
    ⟨Rect.unit (s := S1x2x64x16384) ![0, 0, 0, 12288] S1x2x64x2048.size inb_S1x2x64x16384_S1x2x64x2048_0_0_0_12288, k0_pay1 (k0_pay38 (arg6.view.readCov (aPieces arg2 harg2 arg4 harg4 x0 x2) (Rect.unit (s := S512x2048) ![384, 0] S64x2048.size inb_S512x2048_S64x2048_384_0).toLoadRect) (arg7.view.readCov (bPieces arg2 harg2 arg4 harg4 x0 x2) (Rect.unit (s := S512x2048) ![384, 0] S64x2048.size inb_S512x2048_S64x2048_384_0).toLoadRect) (View.readAt (Elt Ideal) arg3.view (Rect.unit (s := S8x128x128) ![6, 0, 0] S1x128x128.size inb_S8x128x128_S1x128x128_6_0_0).toLoadRect (harg3.unread x1)))⟩,
    ⟨Rect.unit (s := S1x2x64x16384) ![0, 0, 0, 10240] S1x2x64x2048.size inb_S1x2x64x16384_S1x2x64x2048_0_0_0_10240, k0_pay37 (arg6.view.readCov (aPieces arg2 harg2 arg4 harg4 x0 x2) (Rect.unit (s := S512x2048) ![320, 0] S64x2048.size inb_S512x2048_S64x2048_320_0).toLoadRect) (arg7.view.readCov (bPieces arg2 harg2 arg4 harg4 x0 x2) (Rect.unit (s := S512x2048) ![320, 0] S64x2048.size inb_S512x2048_S64x2048_320_0).toLoadRect) (View.readAt (Elt Ideal) arg3.view (Rect.unit (s := S8x128x128) ![5, 0, 0] S1x128x128.size inb_S8x128x128_S1x128x128_5_0_0).toLoadRect (harg3.unread x1))⟩,
    ⟨Rect.unit (s := S1x2x64x16384) ![0, 0, 0, 8192] S1x2x64x2048.size inb_S1x2x64x16384_S1x2x64x2048_0_0_0_8192, k0_pay36 (arg6.view.readCov (aPieces arg2 harg2 arg4 harg4 x0 x2) (Rect.unit (s := S512x2048) ![256, 0] S64x2048.size inb_S512x2048_S64x2048_256_0).toLoadRect) (arg7.view.readCov (bPieces arg2 harg2 arg4 harg4 x0 x2) (Rect.unit (s := S512x2048) ![256, 0] S64x2048.size inb_S512x2048_S64x2048_256_0).toLoadRect) (View.readAt (Elt Ideal) arg3.view (Rect.unit (s := S8x128x128) ![4, 0, 0] S1x128x128.size inb_S8x128x128_S1x128x128_4_0_0).toLoadRect (harg3.unread x1))⟩,
    ⟨Rect.unit (s := S1x2x64x16384) ![0, 0, 0, 6144] S1x2x64x2048.size inb_S1x2x64x16384_S1x2x64x2048_0_0_0_6144, k0_pay35 (arg6.view.readCov (aPieces arg2 harg2 arg4 harg4 x0 x2) (Rect.unit (s := S512x2048) ![192, 0] S64x2048.size inb_S512x2048_S64x2048_192_0).toLoadRect) (arg7.view.readCov (bPieces arg2 harg2 arg4 harg4 x0 x2) (Rect.unit (s := S512x2048) ![192, 0] S64x2048.size inb_S512x2048_S64x2048_192_0).toLoadRect) (View.readAt (Elt Ideal) arg3.view (Rect.unit (s := S8x128x128) ![3, 0, 0] S1x128x128.size inb_S8x128x128_S1x128x128_3_0_0).toLoadRect (harg3.unread x1))⟩,
    ⟨Rect.unit (s := S1x2x64x16384) ![0, 0, 0, 4096] S1x2x64x2048.size inb_S1x2x64x16384_S1x2x64x2048_0_0_0_4096, k0_pay34 (arg6.view.readCov (aPieces arg2 harg2 arg4 harg4 x0 x2) (Rect.unit (s := S512x2048) ![128, 0] S64x2048.size inb_S512x2048_S64x2048_128_0).toLoadRect) (arg7.view.readCov (bPieces arg2 harg2 arg4 harg4 x0 x2) (Rect.unit (s := S512x2048) ![128, 0] S64x2048.size inb_S512x2048_S64x2048_128_0).toLoadRect) (View.readAt (Elt Ideal) arg3.view (Rect.unit (s := S8x128x128) ![2, 0, 0] S1x128x128.size inb_S8x128x128_S1x128x128_2_0_0).toLoadRect (harg3.unread x1))⟩,
    ⟨Rect.unit (s := S1x2x64x16384) ![0, 0, 0, 2048] S1x2x64x2048.size inb_S1x2x64x16384_S1x2x64x2048_0_0_0_2048, k0_pay33 (k0_pay32 (arg6.view.readCov (aPieces arg2 harg2 arg4 harg4 x0 x2) (Rect.unit (s := S512x2048) ![64, 0] S64x2048.size inb_S512x2048_S64x2048_64_0).toLoadRect) (arg7.view.readCov (bPieces arg2 harg2 arg4 harg4 x0 x2) (Rect.unit (s := S512x2048) ![64, 0] S64x2048.size inb_S512x2048_S64x2048_64_0).toLoadRect) (View.readAt (Elt Ideal) arg3.view (Rect.unit (s := S8x128x128) ![1, 0, 0] S1x128x128.size inb_S8x128x128_S1x128x128_1_0_0).toLoadRect (harg3.unread x1)))⟩,
    ⟨Rect.unit (s := S1x2x64x16384) ![0, 0, 0, 0] S1x2x64x2048.size inb_S1x2x64x16384_S1x2x64x2048_0_0_0_0, k0_pay31 (arg6.view.readCov (aPieces arg2 harg2 arg4 harg4 x0 x2) (Rect.unit (s := S512x2048) ![0, 0] S64x2048.size inb_S512x2048_S64x2048_0_0).toLoadRect) (arg7.view.readCov (bPieces arg2 harg2 arg4 harg4 x0 x2) (Rect.unit (s := S512x2048) ![0, 0] S64x2048.size inb_S512x2048_S64x2048_0_0).toLoadRect) (View.readAt (Elt Ideal) arg3.view (Rect.unit (s := S8x128x128) ![0, 0, 0] S1x128x128.size inb_S8x128x128_S1x128x128_0_0_0).toLoadRect (harg3.unread x1))⟩] := by
  unfold kernelRun0_A
  dsimp only
  sl_unfold_words
  rfl

/-- A stored piece holds its column. -/
theorem oPiece (r : Fin 8) (inb : ∀ a, (![0, 0, 0, 2048 * r.val] : Fin 4 → Nat) a + S1x2x64x2048.size a ≤ S1x2x64x16384.size a)
    (ia : ∀ a, (![64 * r.val, 0] : Fin 2 → Nat) a + S64x2048.size a ≤ S512x2048.size a)
    (im : ∀ a, (![r.val, 0, 0] : Fin 3 → Nat) a + S1x128x128.size a ≤ S8x128x128.size a) (x : S1x2x64x2048.Idx) :
    k0_pay31 (arg6.view.readCov (aPieces arg2 harg2 arg4 harg4 x0 x2) (Rect.unit (s := S512x2048) ![64 * r.val, 0] S64x2048.size ia).toLoadRect)
        (arg7.view.readCov (bPieces arg2 harg2 arg4 harg4 x0 x2) (Rect.unit (s := S512x2048) ![64 * r.val, 0] S64x2048.size ia).toLoadRect)
        (View.readAt (Elt Ideal) arg3.view (Rect.unit (s := S8x128x128) ![r.val, 0, 0] S1x128x128.size im).toLoadRect (harg3.unread x1)) x
      = blockOut x0 x1 x2 ((Rect.unit (s := S1x2x64x16384) ![0, 0, 0, 2048 * r.val] S1x2x64x2048.size inb).emb x) := by
  obtain ⟨p, k, d, rfl⟩ : ∃ (p : Fin 2) (k : Fin 64) (d : Fin 2048), x = ix4 0 p k d := by
    refine ⟨x 1, x 2, x 3, funext fun a => Fin.ext ?_⟩
    match a with
    | ⟨0, _⟩ => have h : (x 0).val < 1 := (x 0).isLt; show (x 0).val = 0; omega
    | ⟨1, _⟩ => rfl
    | ⟨2, _⟩ => rfl
    | ⟨3, _⟩ => rfl
  have e : (Rect.unit (s := S1x2x64x16384) ![0, 0, 0, 2048 * r.val] S1x2x64x2048.size inb).emb (ix4 0 p k d) = ix4 0 p k ⟨2048 * r.val + d.val, by omega⟩ := by
    refine funext fun a => Fin.ext ?_
    match a with
    | ⟨0, _⟩ => rfl
    | ⟨1, _⟩ => show 0 + 1 * p.val = p.val; omega
    | ⟨2, _⟩ => show 0 + 1 * k.val = k.val; omega
    | ⟨3, _⟩ => show 2048 * r.val + 1 * d.val = 2048 * r.val + d.val; omega
  rw [pay_at, e]
  have a1 : (2048 * r.val + d.val) / 2048 = r.val := by omega
  have a2 : (2048 * r.val + d.val) % 2048 = d.val := by omega
  unfold blockOut
  simp only [ix4_1, ix4_2, ix4_3, a1, a2]
  exact congrArg₂ (· + ·)
    (Finset.sum_congr rfl fun s _ => congrArg₂ (· * ·) (load1 arg3 harg3 x1 r im _ _) (aLoad arg2 harg2 arg4 harg4 arg6 x0 x2 r ia s d))
    (Finset.sum_congr rfl fun s _ => congrArg₂ (· * ·) (load1 arg3 harg3 x1 r im _ _) (bLoad arg2 harg2 arg4 harg4 arg7 x0 x2 r ia s d))

/-- What the body leaves in the output block. -/
theorem out_eq (c : Dev nD) (i : grid0.Coords) : out0_A_3 c i arg2 harg2 arg3 harg3 arg4 harg4 arg5 harg5 arg6 harg6 arg7 harg7 x0 x1 x2 = blockOut x0 x1 x2 := by
  funext y
  refine View.read_writes_apply_of_pieces VO0_3 _ _ _ ?_ y (cover0_A_3 c i arg2 harg2 arg3 harg3 arg4 harg4 arg5 harg5 arg6 harg6 arg7 harg7 x0 x1 x2 y)
  rw [run_eq]
  refine List.forall_mem_cons.2 ⟨fun x => oPiece arg2 harg2 arg3 harg3 arg4 harg4 arg6 arg7 x0 x1 x2 7 inb_S1x2x64x16384_S1x2x64x2048_0_0_0_14336 inb_S512x2048_S64x2048_448_0 inb_S8x128x128_S1x128x128_7_0_0 x, ?_⟩
  refine List.forall_mem_cons.2 ⟨fun x => oPiece arg2 harg2 arg3 harg3 arg4 harg4 arg6 arg7 x0 x1 x2 6 inb_S1x2x64x16384_S1x2x64x2048_0_0_0_12288 inb_S512x2048_S64x2048_384_0 inb_S8x128x128_S1x128x128_6_0_0 x, ?_⟩
  refine List.forall_mem_cons.2 ⟨fun x => oPiece arg2 harg2 arg3 harg3 arg4 harg4 arg6 arg7 x0 x1 x2 5 inb_S1x2x64x16384_S1x2x64x2048_0_0_0_10240 inb_S512x2048_S64x2048_320_0 inb_S8x128x128_S1x128x128_5_0_0 x, ?_⟩
  refine List.forall_mem_cons.2 ⟨fun x => oPiece arg2 harg2 arg3 harg3 arg4 harg4 arg6 arg7 x0 x1 x2 4 inb_S1x2x64x16384_S1x2x64x2048_0_0_0_8192 inb_S512x2048_S64x2048_256_0 inb_S8x128x128_S1x128x128_4_0_0 x, ?_⟩
  refine List.forall_mem_cons.2 ⟨fun x => oPiece arg2 harg2 arg3 harg3 arg4 harg4 arg6 arg7 x0 x1 x2 3 inb_S1x2x64x16384_S1x2x64x2048_0_0_0_6144 inb_S512x2048_S64x2048_192_0 inb_S8x128x128_S1x128x128_3_0_0 x, ?_⟩
  refine List.forall_mem_cons.2 ⟨fun x => oPiece arg2 harg2 arg3 harg3 arg4 harg4 arg6 arg7 x0 x1 x2 2 inb_S1x2x64x16384_S1x2x64x2048_0_0_0_4096 inb_S512x2048_S64x2048_128_0 inb_S8x128x128_S1x128x128_2_0_0 x, ?_⟩
  refine List.forall_mem_cons.2 ⟨fun x => oPiece arg2 harg2 arg3 harg3 arg4 harg4 arg6 arg7 x0 x1 x2 1 inb_S1x2x64x16384_S1x2x64x2048_0_0_0_2048 inb_S512x2048_S64x2048_64_0 inb_S8x128x128_S1x128x128_1_0_0 x, ?_⟩
  refine List.forall_mem_cons.2 ⟨fun x => oPiece arg2 harg2 arg3 harg3 arg4 harg4 arg6 arg7 x0 x1 x2 0 inb_S1x2x64x16384_S1x2x64x2048_0_0_0_0 inb_S512x2048_S64x2048_0_0 inb_S8x128x128_S1x128x128_0_0_0 x, ?_⟩
  exact fun _ h => absurd h List.not_mem_nil

end

end

end Cert.Kernel6Ideal.Gen
-- ==== Proof.Fourier.Stage1.lean ====
module

public import proofs.«01_k».proof.Proof.Fourier.Stage1Body
public import proofs.«01_k».proof.Proof.Gen.Reference6Ideal.Run

@[expose] public section

set_option maxRecDepth 16384

/-! # The first step of the Fourier mixing

Each grid point writes eight columns of positions of one batch entry; the blocks tile the result. -/

namespace Cert.Kernel6Ideal.Gen

open Idealize.ShloMosaic Idealize.SL.Sem Idealize.ShloMosaic.TcCoe
open Cert.Kernel6Ideal

noncomputable section

variable (m : (ℓ : Loc nD τ sig) → Buf (Elt Ideal) ℓ) (c : Dev nD) (t : Fin cfg0.N)

/-- The batch entry of a grid point. -/
def batchOf (t : Fin cfg0.N) : Fin 4 := ⟨(grid0.coords t 0).val, (grid0.coords t 0).isLt⟩

/-- The block of columns of a grid point. -/
def colsOf (t : Fin cfg0.N) : Fin 8 := ⟨(grid0.coords t 1).val, (grid0.coords t 1).isLt⟩

/-- The channel table is read whole at every grid point. -/
theorem idx0_0 : ∀ t : Fin cfg0.N, win0_0.index t = ![0, 0] := by decide +kernel
/-- The block of the positions' table read at a grid point. -/
theorem idx0_1 : ∀ t : Fin cfg0.N, win0_1.index t = ![(colsOf t).val, 0, 0] := by decide +kernel
/-- The block of the activations read at a grid point. -/
theorem idx0_2 : ∀ t : Fin cfg0.N, win0_2.index t = ![(batchOf t).val, 0, (colsOf t).val] := by decide +kernel
/-- The block written at a grid point. -/
theorem idx0_3 : ∀ t : Fin cfg0.N, win0_3.index t = ![(batchOf t).val, 0, 0, (colsOf t).val] := by decide +kernel

/-- The activations the kernel is given. -/
def argH : (⟨3, ![4, 4096, 2048]⟩ : Shape).Idx → EReal := m ((c.tc : Thread nD τ).loc main_arg0)

/-- The channel table. -/
def tab (i : S256x512.Idx) : EReal := (FloatOps.ofBits (F := Ideal) .bf16 (lit0 (S256x512.rowMajor i)) : Ideal .bf16)

/-- The two programs hold the same channel table. -/
theorem lit_eq : Cert.Kernel6Ideal.lit0 = Cert.Reference6Ideal.lit0 := by sl_kernel_rfl

/-- The angle at a column, an output and an input position. -/
def phase : Vec Ideal S64x64x64 .f32 :=
  Host.divf (F := Ideal) (φ := .f32) (mulf (φ := .f32) (broadcastInDim S64x64x64 ![] Facts₀.bcast_S_S64x64x64 (constant (F := Ideal) S_ .f32 0x40C90FDB#32))
    (sitofp .f32 (Host.remsi (muli (iotaInDim S64x64x64 32 1) (addi (muli (broadcastInDim S64x64x64 ![] Facts₀.bcast_S_S64x64x64 (constantI S_ 32 64#32)) (iotaInDim S64x64x64 32 2)) (iotaInDim S64x64x64 32 0)))
      (broadcastInDim S64x64x64 ![] Facts₀.bcast_S_S64x64x64 (constantI S_ 32 4096#32)))))
    (broadcastInDim S64x64x64 ![] Facts₀.bcast_S_S64x64x64 (constant (F := Ideal) S_ .f32 0x45800000#32))

/-- The cosines of the angles. -/
def cosV : Vec Ideal S64x64x64 .f32 := Host.cos (F := Ideal) (φ := .f32) phase

/-- The sines of the angles, negated. -/
def nsinV : Vec Ideal S64x64x64 .f32 := Host.negf (F := Ideal) (φ := .f32) (Host.sin (F := Ideal) (φ := .f32) phase)

/-- The cosines of the angles, negated. -/
def ncosV : Vec Ideal S64x64x64 .f32 := Host.negf (F := Ideal) (φ := .f32) (Host.cos (F := Ideal) (φ := .f32) phase)

/-- Four square tables as one, per column. -/
def quads (x y z : Vec Ideal S64x64x64 .f32) : Vec Ideal S64x128x128 .bf16 :=
  truncf (F := Ideal) (φ := .f32) .bf16 (concatenate S64x128x128 1 [⟨S64x64x128, concatenate S64x64x128 2 [⟨S64x64x64, x⟩, ⟨S64x64x64, y⟩] Facts₀.concatenates_S64x64x64_S64x64x64_S64x64x128_d2⟩,
    ⟨S64x64x128, concatenate S64x64x128 2 [⟨S64x64x64, y⟩, ⟨S64x64x64, z⟩] Facts₀.concatenates_S64x64x64_S64x64x64_S64x64x128_d2⟩] Facts₀.concatenates_S64x64x128_S64x64x128_S64x128x128_d1 : Vec Ideal S64x128x128 .f32) Facts₀.bitsLt_bf16_f32

/-- The upper left square. -/
theorem quads_00 (x y z : Vec Ideal S64x64x64 .f32) (q k s : Fin 64) : quads x y z (ix3 q ⟨k.val, by omega⟩ ⟨s.val, by omega⟩) = x (ix3 q k s) := by
  unfold quads
  clean_types
  pointwise

/-- The upper right square. -/
theorem quads_01 (x y z : Vec Ideal S64x64x64 .f32) (q k s : Fin 64) : quads x y z (ix3 q ⟨k.val, by omega⟩ ⟨64 + s.val, by omega⟩) = y (ix3 q k s) := by
  unfold quads
  clean_types
  pointwise

/-- The lower left square. -/
theorem quads_10 (x y z : Vec Ideal S64x64x64 .f32) (q k s : Fin 64) : quads x y z (ix3 q ⟨64 + k.val, by omega⟩ ⟨s.val, by omega⟩) = y (ix3 q k s) := by
  unfold quads
  clean_types
  pointwise

/-- The lower right square. -/
theorem quads_11 (x y z : Vec Ideal S64x64x64 .f32) (q k s : Fin 64) : quads x y z (ix3 q ⟨64 + k.val, by omega⟩ ⟨64 + s.val, by omega⟩) = z (ix3 q k s) := by
  unfold quads
  clean_types
  pointwise

/-- The host's channel table. -/
theorem host_tab : (V m c main_cst : Vec Ideal S256x512 .bf16) = tab := by
  unfold tab
  entry_read
  rfl

/-- The host's positions table. -/
theorem host_m : (V m c main_v22 : Vec Ideal S64x128x128 .bf16) = quads cosV nsinV ncosV := by
  unfold quads cosV nsinV ncosV phase
  entry_read
  try rfl

/-- The host's reshape of the activations. -/
theorem host_h (b : Fin 4) (s r : Fin 64) (d : Fin 2048) : (V m c main_v23 : Vec Ideal S4x64x131072 .bf16) (ix3 b s ⟨r.val * 2048 + d.val, by omega⟩)
    = argH m c (ix3 b ⟨s.val * 64 + r.val, by omega⟩ d) := by
  unfold argH
  entry_read
  clean_types
  pointwise
  have e : (r.val * 2048 + d.val) / 2048 = r.val := by omega
  simp only [e]

/-- The channel table at a grid point. -/
theorem blk0 (k : Fin 256) (q : Fin 512) : (iblk m c 0 t : Vec Ideal S256x512 .bf16) (ix2 k q) = tab (ix2 k q) := by
  refine Eq.trans ?_ (congrFun (host_tab m c) (ix2 k q))
  blk_ext [iblk, idx0_0 t]

/-- The positions' table at a grid point. -/
theorem blk1 (r : Fin 8) (k q : Fin 128) : (iblk m c 1 t : Vec Ideal S8x128x128 .bf16) (ix3 r k q)
    = quads cosV nsinV ncosV (ix3 ⟨8 * (colsOf t).val + r.val, by omega⟩ k q) := by
  refine Eq.trans ?_ (congrFun (host_m m c) (ix3 ⟨8 * (colsOf t).val + r.val, by omega⟩ k q))
  blk_ext [iblk, idx0_1 t]

/-- The block of the activations at a grid point, placed in the array. -/
theorem blk2 (s : Fin 64) (r : Fin 8) (d : Fin 2048) : (iblk m c 2 t : Vec Ideal S1x64x16384 .bf16) (ix3 0 s ⟨2048 * r.val + d.val, by omega⟩)
    = argH m c (ix3 (batchOf t) ⟨s.val * 64 + (8 * (colsOf t).val + r.val), by omega⟩ d) := by
  refine Eq.trans ?_ (host_h m c (batchOf t) s ⟨8 * (colsOf t).val + r.val, by omega⟩ d)
  blk_ext [iblk, idx0_2 t]

/-- The channel transform of one position, at the table's columns from `o` on. -/
def chanG (o : Nat) (ho : o ≤ 256) (b : Fin 4) (s r : Fin 64) (d : Fin 2048) : EReal :=
  ∑ k : Fin 256, argH m c (ix3 b ⟨s.val * 64 + r.val, by omega⟩ ⟨256 * (d.val / 256) + k.val, by omega⟩) * tab (ix2 k ⟨o + d.val % 256, by omega⟩)

/-- The table that multiplies the channel cosines, for the real and the imaginary part. -/
def tabA (p : Fin 2) : Vec Ideal S64x64x64 .f32 := match p with
  | ⟨0, _⟩ => cosV
  | ⟨1, _⟩ => nsinV

/-- The table that multiplies the channel sines, for the real and the imaginary part. -/
def tabB (p : Fin 2) : Vec Ideal S64x64x64 .f32 := match p with
  | ⟨0, _⟩ => nsinV
  | ⟨1, _⟩ => ncosV

/-- The left half of the four squares. -/
theorem quads_a (p : Fin 2) (q k s : Fin 64) : quads cosV nsinV ncosV (ix3 q ⟨64 * p.val + k.val, by omega⟩ ⟨s.val, by omega⟩) = tabA p (ix3 q k s) := by
  match p with
  | ⟨0, _⟩ => refine Eq.trans ?_ (quads_00 cosV nsinV ncosV q k s); simp only [Nat.mul_zero, Nat.zero_add]
  | ⟨1, _⟩ => exact quads_10 cosV nsinV ncosV q k s

/-- The right half of the four squares. -/
theorem quads_b (p : Fin 2) (q k s : Fin 64) : quads cosV nsinV ncosV (ix3 q ⟨64 * p.val + k.val, by omega⟩ ⟨64 + s.val, by omega⟩) = tabB p (ix3 q k s) := by
  match p with
  | ⟨0, _⟩ => refine Eq.trans ?_ (quads_01 cosV nsinV ncosV q k s); simp only [Nat.mul_zero, Nat.zero_add]
  | ⟨1, _⟩ => exact quads_11 cosV nsinV ncosV q k s

/-- One entry of the first step: the transform of a column over its 64 positions. -/
def resultAt (b : Fin 4) (p : Fin 2) (k r : Fin 64) (d : Fin 2048) : EReal :=
  ∑ s : Fin 64, tabA p (ix3 r k s) * chanG m c 0 (by omega) b s r d + ∑ s : Fin 64, tabB p (ix3 r k s) * chanG m c 256 (by omega) b s r d

/-- The whole result. -/
def result (y : (⟨4, ![4, 2, 64, 131072]⟩ : Shape).Idx) : EReal :=
  have h : (y 3).val < 131072 := (y 3).isLt
  resultAt m c (y 0) (y 1) (y 2) ⟨(y 3).val / 2048, by omega⟩ ⟨(y 3).val % 2048, by omega⟩

/-- The body's channel transform is the array's. -/
theorem chan_eq (o : Nat) (ho : o ≤ 256) (s : Fin 64) (r : Fin 8) (d : Fin 2048) :
    chan o ho (iblk m c 0 t) (iblk m c 2 t) r s d = chanG m c o ho (batchOf t) s ⟨8 * (colsOf t).val + r.val, by omega⟩ d := by
  unfold chan chanG
  exact Finset.sum_congr rfl fun k _ => congrArg₂ (· * ·) (blk2 m c t s r ⟨256 * (d.val / 256) + k.val, by omega⟩) (blk0 m c t k _)

/-- What a grid point writes is its block of the result. -/
theorem outs_at (y : S1x2x64x16384.Idx) :
    outsAt0 m c t y = result m c (ix4 (batchOf t) (y 1) (y 2) ⟨16384 * (colsOf t).val + (y 3).val, by have h : (y 3).val < 16384 := (y 3).isLt; omega⟩) := by
  obtain ⟨p, k, r, d, rfl⟩ : ∃ (p : Fin 2) (k : Fin 64) (r : Fin 8) (d : Fin 2048), y = ix4 0 p k ⟨2048 * r.val + d.val, by omega⟩ := by
    have h : (y 3).val < 16384 := (y 3).isLt
    refine ⟨y 1, y 2, ⟨(y 3).val / 2048, by omega⟩, ⟨(y 3).val % 2048, by omega⟩, funext fun a => Fin.ext ?_⟩
    match a with
    | ⟨0, _⟩ => have h : (y 0).val < 1 := (y 0).isLt; show (y 0).val = 0; omega
    | ⟨1, _⟩ => rfl
    | ⟨2, _⟩ => rfl
    | ⟨3, _⟩ => show (y 3).val = 2048 * ((y 3).val / 2048) + (y 3).val % 2048; omega
  unfold outsAt0
  rw [out_eq]
  have a1 : (2048 * r.val + d.val) / 2048 = r.val := by omega
  have a2 : (2048 * r.val + d.val) % 2048 = d.val := by omega
  have a3 : (16384 * (colsOf t).val + (2048 * r.val + d.val)) / 2048 = 8 * (colsOf t).val + r.val := by omega
  have a4 : (16384 * (colsOf t).val + (2048 * r.val + d.val)) % 2048 = d.val := by omega
  unfold blockOut result resultAt
  simp only [ix4_0, ix4_1, ix4_2, ix4_3, a1, a2, a3, a4]
  exact congrArg₂ (· + ·)
    (Finset.sum_congr rfl fun s _ => congrArg₂ (· * ·) ((blk1 m c t r _ _).trans (quads_a p _ k s)) (chan_eq m c t 0 (by omega) s r d))
    (Finset.sum_congr rfl fun s _ => congrArg₂ (· * ·) ((blk1 m c t r _ _).trans (quads_b p _ k s)) (chan_eq m c t 256 (by omega) s r d))

/-- The result array after the run. -/
theorem final : (dats m 0 c).arrAt 3 cfg0.N = result m c := by
  refine (dats m 0 c).arrAt_eq_of_covers 3 _ (by decide +kernel) fun t hf y => ?_
  blk_simp
  refine (congrFun (after0_3 m c t) y).trans ((outs_at m c t y).trans (congrArg (result m c) ?_))
  blk_ext [idx0_3 t]

/-- The reference's product of the activations with the channel table. -/
def refZ (x : Vec Ideal Cert.Reference6Ideal.S4x4096x2048 .bf16) (T : Vec Ideal Cert.Reference6Ideal.S256x512 .bf16) : Vec Ideal Cert.Reference6Ideal.S4x64x64x8x512 .f32 :=
  Host.dotGeneral (F := Ideal) (φ₁ := .f32) (φ₂ := .f32) Cert.Reference6Ideal.dot_S4x64x64x8x256_S256x512_S4x64x64x8x512_4_0_0123_1_n_n none (shapeCast _ (extf .f32 x Cert.Reference6Ideal.Facts₀.bitsLt_bf16_f32) Cert.Reference6Ideal.Facts₀.shapeCasts_S4x4096x2048_S4x64x64x8x256) (extf .f32 T Cert.Reference6Ideal.Facts₀.bitsLt_bf16_f32)

/-- Its part against the cosines. -/
def refA (z : Vec Ideal Cert.Reference6Ideal.S4x64x64x8x512 .f32) : Vec Ideal Cert.Reference6Ideal.S4x64x64x2048 .f32 :=
  shapeCast _ (extractStridedSlice Cert.Reference6Ideal.S4x64x64x8x256 ![0, 0, 0, 0, 0] z Cert.Reference6Ideal.Facts₀.slices_S4x64x64x8x512_S4x64x64x8x256_0_0_0_0_0) Cert.Reference6Ideal.Facts₀.shapeCasts_S4x64x64x8x256_S4x64x64x2048

/-- Its part against the sines. -/
def refB (z : Vec Ideal Cert.Reference6Ideal.S4x64x64x8x512 .f32) : Vec Ideal Cert.Reference6Ideal.S4x64x64x2048 .f32 :=
  shapeCast _ (extractStridedSlice Cert.Reference6Ideal.S4x64x64x8x256 ![0, 0, 0, 0, 256] z Cert.Reference6Ideal.Facts₀.slices_S4x64x64x8x512_S4x64x64x8x256_0_0_0_0_256) Cert.Reference6Ideal.Facts₀.shapeCasts_S4x64x64x8x256_S4x64x64x2048

/-- The reference's transform over the positions, one of its two parts. -/
def refP (a b : Vec Ideal Cert.Reference6Ideal.S4x64x64x2048 .f32) (x y : Vec Ideal Cert.Reference6Ideal.S64x64x64 .f32) : Vec Ideal Cert.Reference6Ideal.S4x64x64x2048 .f32 :=
  addf (φ := .f32) (transpose Cert.Reference6Ideal.S4x64x64x2048 [1, 3, 0, 2] (Host.dotGeneral (F := Ideal) (φ₁ := .f32) (φ₂ := .f32) Cert.Reference6Ideal.dot_S4x64x64x2048_S64x64x64_S64x4x2048x64_1_2_03_1_2_0 none a x) Cert.Reference6Ideal.Facts₀.transposes_S64x4x2048x64_S4x64x64x2048_1_3_0_2)
    (transpose Cert.Reference6Ideal.S4x64x64x2048 [1, 3, 0, 2] (Host.dotGeneral (F := Ideal) (φ₁ := .f32) (φ₂ := .f32) Cert.Reference6Ideal.dot_S4x64x64x2048_S64x64x64_S64x4x2048x64_1_2_03_1_2_0 none b y) Cert.Reference6Ideal.Facts₀.transposes_S64x4x2048x64_S4x64x64x2048_1_3_0_2)

/-- The two parts, the real one first. -/
def refStack (x y : Vec Ideal Cert.Reference6Ideal.S4x64x64x2048 .f32) : Vec Ideal Cert.Reference6Ideal.S4x2x64x64x2048 .f32 :=
  concatenate Cert.Reference6Ideal.S4x2x64x64x2048 1 [⟨Cert.Reference6Ideal.S4x1x64x64x2048, broadcastInDim Cert.Reference6Ideal.S4x1x64x64x2048 ![0, 2, 3, 4] Cert.Reference6Ideal.Facts₀.bcast_S4x64x64x2048_S4x1x64x64x2048_0_2_3_4 x⟩,
    ⟨Cert.Reference6Ideal.S4x1x64x64x2048, broadcastInDim Cert.Reference6Ideal.S4x1x64x64x2048 ![0, 2, 3, 4] Cert.Reference6Ideal.Facts₀.bcast_S4x64x64x2048_S4x1x64x64x2048_0_2_3_4 y⟩] Cert.Reference6Ideal.Facts₀.concatenates_S4x1x64x64x2048_S4x1x64x64x2048_S4x2x64x64x2048_d1

/-- The two parts laid out as the result. -/
def refOut (v : Vec Ideal Cert.Reference6Ideal.S4x2x64x64x2048 .f32) : Vec Ideal Cert.Reference6Ideal.S4x2x64x131072 .bf16 :=
  truncf (F := Ideal) (φ := .f32) .bf16 (shapeCast _ v Cert.Reference6Ideal.Facts₀.shapeCasts_S4x2x64x64x2048_S4x2x64x131072 : Vec Ideal Cert.Reference6Ideal.S4x2x64x131072 .f32) Cert.Reference6Ideal.Facts₀.bitsLt_bf16_f32

/-- The channel product at an index. -/
theorem refZ_at (x : Vec Ideal Cert.Reference6Ideal.S4x4096x2048 .bf16) (T : Vec Ideal Cert.Reference6Ideal.S256x512 .bf16) (b : Fin 4) (s r : Fin 64) (g : Fin 8) (q : Fin 512) :
    refZ x T (ix5 b s r g q) = (∑ k : Fin 256, x (ix3 b ⟨s.val * 64 + r.val, by omega⟩ ⟨g.val * 256 + k.val, by omega⟩) * T (ix2 k q) : EReal) := by
  unfold refZ
  clean_types
  pointwise

/-- The part against the cosines at an index. -/
theorem refA_at (z : Vec Ideal Cert.Reference6Ideal.S4x64x64x8x512 .f32) (b : Fin 4) (s r : Fin 64) (g : Fin 8) (w : Fin 256) :
    refA z (ix4 b s r ⟨g.val * 256 + w.val, by omega⟩) = z (ix5 b s r g ⟨w.val, by omega⟩) := by
  unfold refA
  clean_types
  pointwise

/-- The part against the sines at an index. -/
theorem refB_at (z : Vec Ideal Cert.Reference6Ideal.S4x64x64x8x512 .f32) (b : Fin 4) (s r : Fin 64) (g : Fin 8) (w : Fin 256) :
    refB z (ix4 b s r ⟨g.val * 256 + w.val, by omega⟩) = z (ix5 b s r g ⟨256 + w.val, by omega⟩) := by
  unfold refB
  clean_types
  pointwise

/-- The transform over the positions at an index. -/
theorem refP_at (a b : Vec Ideal Cert.Reference6Ideal.S4x64x64x2048 .f32) (x y : Vec Ideal Cert.Reference6Ideal.S64x64x64 .f32) (n : Fin 4) (k r : Fin 64) (d : Fin 2048) :
    refP a b x y (ix4 n k r d) = (∑ s : Fin 64, a (ix4 n s r d) * x (ix3 r k s) + ∑ s : Fin 64, b (ix4 n s r d) * y (ix3 r k s) : EReal) := by
  unfold refP
  clean_types
  pointwise

/-- The real part of the two. -/
theorem refStack_0 (x y : Vec Ideal Cert.Reference6Ideal.S4x64x64x2048 .f32) (b : Fin 4) (k r : Fin 64) (d : Fin 2048) : refStack x y (ix5 b 0 k r d) = x (ix4 b k r d) := by
  unfold refStack
  clean_types
  pointwise

/-- The imaginary part of the two. -/
theorem refStack_1 (x y : Vec Ideal Cert.Reference6Ideal.S4x64x64x2048 .f32) (b : Fin 4) (k r : Fin 64) (d : Fin 2048) : refStack x y (ix5 b 1 k r d) = y (ix4 b k r d) := by
  unfold refStack
  clean_types
  pointwise

/-- The laid out result at an index. -/
theorem refOut_at (v : Vec Ideal Cert.Reference6Ideal.S4x2x64x64x2048 .f32) (b : Fin 4) (p : Fin 2) (k r : Fin 64) (d : Fin 2048) :
    refOut v (ix4 b p k ⟨r.val * 2048 + d.val, by omega⟩) = v (ix5 b p k r d) := by
  refine shapeCast_apply v Cert.Reference6Ideal.Facts₀.shapeCasts_S4x2x64x64x2048_S4x2x64x131072 (ix4 b p k ⟨r.val * 2048 + d.val, by omega⟩) (ix5 b p k r d) ?_
  rw [Shape.rowMajor_val_five, Shape.rowMajor_val_four]
  show (((b.val * 2 + p.val) * 64 + k.val) * 64 + r.val) * 2048 + d.val = ((b.val * 2 + p.val) * 64 + k.val) * 131072 + (r.val * 2048 + d.val)
  omega

/-- The two parts of the channel product are the channel transform. -/
theorem refA_chan (b : Fin 4) (s r : Fin 64) (d : Fin 2048) : refA (refZ (argH m c) tab) (ix4 b s r d) = chanG m c 0 (by omega) b s r d := by
  obtain ⟨g, w, rfl⟩ : ∃ (g : Fin 8) (w : Fin 256), d = ⟨g.val * 256 + w.val, by omega⟩ :=
    ⟨⟨d.val / 256, by omega⟩, ⟨d.val % 256, by omega⟩, Fin.ext (by show d.val = d.val / 256 * 256 + d.val % 256; omega)⟩
  rw [refA_at, refZ_at]
  have a1 : 256 * ((g.val * 256 + w.val) / 256) = g.val * 256 := by omega
  have a2 : (g.val * 256 + w.val) % 256 = w.val := by omega
  unfold chanG
  simp only [a1, a2, Nat.zero_add]

/-- The part against the sines likewise. -/
theorem refB_chan (b : Fin 4) (s r : Fin 64) (d : Fin 2048) : refB (refZ (argH m c) tab) (ix4 b s r d) = chanG m c 256 (by omega) b s r d := by
  obtain ⟨g, w, rfl⟩ : ∃ (g : Fin 8) (w : Fin 256), d = ⟨g.val * 256 + w.val, by omega⟩ :=
    ⟨⟨d.val / 256, by omega⟩, ⟨d.val % 256, by omega⟩, Fin.ext (by show d.val = d.val / 256 * 256 + d.val % 256; omega)⟩
  rw [refB_at, refZ_at]
  have a1 : 256 * ((g.val * 256 + w.val) / 256) = g.val * 256 := by omega
  have a2 : (g.val * 256 + w.val) % 256 = w.val := by omega
  unfold chanG
  simp only [a1, a2]

/-- One part of the transform, entry by entry. -/
theorem refP_eq (x y : Vec Ideal Cert.Reference6Ideal.S64x64x64 .f32) (b : Fin 4) (k r : Fin 64) (d : Fin 2048) :
    refP (refA (refZ (argH m c) tab)) (refB (refZ (argH m c) tab)) x y (ix4 b k r d)
      = (∑ s : Fin 64, x (ix3 r k s) * chanG m c 0 (by omega) b s r d + ∑ s : Fin 64, y (ix3 r k s) * chanG m c 256 (by omega) b s r d : EReal) := by
  rw [refP_at]
  refine congrArg₂ (· + ·) (Finset.sum_congr rfl fun s _ => ?_) (Finset.sum_congr rfl fun s _ => ?_)
  · rw [refA_chan]; exact mul_comm _ _
  · rw [refB_chan]; exact mul_comm _ _

/-- The reference's two steps of products, entry by entry. -/
theorem ref_eq (m' : (ℓ : Loc Cert.Reference6Ideal.nD Cert.Reference6Ideal.τ Cert.Reference6Ideal.sig) → Buf (Elt Ideal) ℓ) {c' : Dev Cert.Reference6Ideal.nD}
    (h : (m' ((c'.tc : Thread Cert.Reference6Ideal.nD Cert.Reference6Ideal.τ).loc Cert.Reference6Ideal.main_arg0) : Vec Ideal Cert.Reference6Ideal.S4x4096x2048 .bf16) = argH m c) :
    (Cert.Reference6Ideal.Value.res_main_v41 (F := Ideal) m' c' : Vec Ideal Cert.Reference6Ideal.S4x2x64x131072 .bf16) = result m c := by
  have hT : ((fun i => FloatOps.ofBits (F := Ideal) .bf16 (Cert.Reference6Ideal.lit0 (S256x512.rowMajor i))) : Vec Ideal S256x512 .bf16) = tab :=
    funext fun i => congrArg (Ideal.ofBits .bf16) (congrFun lit_eq (S256x512.rowMajor i)).symm
  have e : (Cert.Reference6Ideal.Value.res_main_v41 (F := Ideal) m' c' : Vec Ideal Cert.Reference6Ideal.S4x2x64x131072 .bf16)
      = refOut (refStack (refP (refA (refZ (m' ((c'.tc : Thread Cert.Reference6Ideal.nD Cert.Reference6Ideal.τ).loc Cert.Reference6Ideal.main_arg0)) (fun i => FloatOps.ofBits (F := Ideal) .bf16 (Cert.Reference6Ideal.lit0 (S256x512.rowMajor i)))))
          (refB (refZ (m' ((c'.tc : Thread Cert.Reference6Ideal.nD Cert.Reference6Ideal.τ).loc Cert.Reference6Ideal.main_arg0)) (fun i => FloatOps.ofBits (F := Ideal) .bf16 (Cert.Reference6Ideal.lit0 (S256x512.rowMajor i))))) cosV nsinV)
        (refP (refA (refZ (m' ((c'.tc : Thread Cert.Reference6Ideal.nD Cert.Reference6Ideal.τ).loc Cert.Reference6Ideal.main_arg0)) (fun i => FloatOps.ofBits (F := Ideal) .bf16 (Cert.Reference6Ideal.lit0 (S256x512.rowMajor i)))))
          (refB (refZ (m' ((c'.tc : Thread Cert.Reference6Ideal.nD Cert.Reference6Ideal.τ).loc Cert.Reference6Ideal.main_arg0)) (fun i => FloatOps.ofBits (F := Ideal) .bf16 (Cert.Reference6Ideal.lit0 (S256x512.rowMajor i))))) nsinV ncosV)) := by
    unfold Cert.Reference6Ideal.Value.res_main_v41 refOut refStack refP refA refB refZ cosV nsinV ncosV phase
    rfl
  rw [e, h, hT]
  funext y
  obtain ⟨b, p, k, r, d, rfl⟩ : ∃ (b : Fin 4) (p : Fin 2) (k r : Fin 64) (d : Fin 2048), y = ix4 b p k ⟨r.val * 2048 + d.val, by omega⟩ := by
    have h : (y 3).val < 131072 := (y 3).isLt
    refine ⟨y 0, y 1, y 2, ⟨(y 3).val / 2048, by omega⟩, ⟨(y 3).val % 2048, by omega⟩, funext fun a => Fin.ext ?_⟩
    match a with
    | ⟨0, _⟩ => rfl
    | ⟨1, _⟩ => rfl
    | ⟨2, _⟩ => rfl
    | ⟨3, _⟩ => show (y 3).val = (y 3).val / 2048 * 2048 + (y 3).val % 2048; omega
  have a1 : (r.val * 2048 + d.val) / 2048 = r.val := by omega
  have a2 : (r.val * 2048 + d.val) % 2048 = d.val := by omega
  have hr : result m c (ix4 b p k ⟨r.val * 2048 + d.val, by omega⟩) = resultAt m c b p k r d := by
    unfold result
    simp only [ix4_0, ix4_1, ix4_2, ix4_3, a1, a2]
  rw [hr]
  match p with
  | ⟨0, _⟩ => exact (refOut_at _ b 0 k r d).trans ((refStack_0 _ _ b k r d).trans (refP_eq m c cosV nsinV b k r d))
  | ⟨1, _⟩ => exact (refOut_at _ b 1 k r d).trans ((refStack_1 _ _ b k r d).trans (refP_eq m c nsinV ncosV b k r d))

end

end Cert.Kernel6Ideal.Gen
-- ==== Proof.lean ====
/- The kernel and the reference end with equal results on the extended reals, from finite arguments; the kernel's two
   versions and the reference run, leave their arguments and leave every counter at zero. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Attn.Equal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Proj.Qkv
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Proj.Out
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Fourier.Stage2
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Norm.Mix
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Fourier.Stage1
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.StableHlo Idealize.ShloMosaic.TcCoe Cert.Attn

/-- The reference runs, leaves its arguments and leaves every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The two results are equal, from finite arguments. -/
theorem algebraic : algebraic_KernelIdeal_ReferenceIdeal_pre_finite (hPre_finite := preFacts) := by
  intro m g m' g' hp hag
  refine ⟨fun c => Cert.KernelIdeal.Gen.result m c, ?_, ?_⟩
  · exact (θ_run Cert.KernelIdeal.defs _ _).mono
      (fun r h c => ⟨(h c).1.trans (Cert.KernelIdeal.Gen.final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    exact @results_eq preFacts m (launchContents m' c) c (hp c) (hag c).1 (hag c).2

/-- The reference of the projection to queries, keys and values runs, leaves its arguments and leaves every counter at zero. -/
theorem frame_reference2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m g)

/-- The two results of the projection to queries, keys and values are equal, from any arguments. -/
theorem algebraic2 : algebraic_Kernel2Ideal_Reference2Ideal (hKernel2Ideal := Cert.Kernel2Ideal.Gen.facts) (hReference2Ideal := Cert.Reference2Ideal.Gen.facts) := by
  intro m g m' g' _ hag
  refine ⟨fun c => Cert.Kernel2Ideal.Gen.result m c, ?_, ?_⟩
  · exact (θ_run Cert.Kernel2Ideal.defs _ _).mono
      (fun r h c => ⟨(h c).1.trans (Cert.Kernel2Ideal.Gen.final m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    exact Cert.Kernel2Ideal.Gen.ref_eq m c _ _ (hag c).1 (hag c).2

/-- The reference of the output projection runs, leaves its arguments and leaves every counter at zero. -/
theorem frame_reference3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m g)

/-- The two results of the output projection are equal, from any arguments. -/
theorem algebraic3 : algebraic_Kernel3Ideal_Reference3Ideal (hKernel3Ideal := Cert.Kernel3Ideal.Gen.facts) (hReference3Ideal := Cert.Reference3Ideal.Gen.facts) := by
  intro m g m' g' _ hag
  refine ⟨fun c => Cert.Kernel3Ideal.Gen.result m c, ?_, ?_⟩
  · exact (θ_run Cert.Kernel3Ideal.defs _ _).mono
      (fun r h c => ⟨(h c).1.trans (Cert.Kernel3Ideal.Gen.final m c), (h c).2⟩)
      (Cert.Kernel3Ideal.Value.run_blocks (F := Ideal) m g)
  · refine (θ_run Cert.Reference3Ideal.defs _ _).mono (fun r h c => ⟨(h c).1.trans ?_, (h c).2⟩)
      (Cert.Reference3Ideal.Value.run (F := Ideal) m' g')
    exact Cert.Kernel3Ideal.Gen.ref_eq m c _ _ _ (hag c).1 (hag c).2.1 (hag c).2.2

/-- The reference of the last step of the Fourier mixing runs, leaves its arguments and leaves every counter at zero. -/
theorem frame_reference4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m g)

/-- The two results of the last step of the Fourier mixing are equal, from any arguments. -/
theorem algebraic4 : algebraic_Kernel4Ideal_Reference4Ideal (hKernel4Ideal := Cert.Kernel4Ideal.Gen.facts) (hReference4Ideal := Cert.Reference4Ideal.Gen.facts) := by
  intro m g m' g' _ hag
  refine ⟨fun c => Cert.Kernel4Ideal.Gen.result m c, ?_, ?_⟩
  · exact (θ_run Cert.Kernel4Ideal.defs _ _).mono
      (fun r h c => ⟨(h c).1.trans (Cert.Kernel4Ideal.Gen.final m c), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    exact Cert.Kernel4Ideal.Gen.ref_eq m c _ _ _ (hag c).1 (hag c).2.1 (hag c).2.2

/-- The reference of the norm before a mixer runs, leaves its arguments and leaves every counter at zero. -/
theorem frame_reference5 (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono (fun r h => ⟨fun c => (h c).2, sem_eq_zero_of_no_sems (by decide) r.2⟩)
    (Cert.Reference5Ideal.Value.run (F := Ideal) m g)

/-- The two results of the norm before a mixer are equal, from any arguments. -/
theorem algebraic5 : algebraic_Kernel5Ideal_Reference5Ideal (hKernel5Ideal := Cert.Kernel5Ideal.Gen.facts) (hReference5Ideal := Cert.Reference5Ideal.Gen.facts) := by
  intro m g m' g' _ hag
  refine ⟨fun c => Cert.Kernel5Ideal.Gen.result m c, ?_, ?_⟩
  · exact (θ_run Cert.Kernel5Ideal.defs _ _).mono
      (fun r h c => ⟨(h c).1.trans (Cert.Kernel5Ideal.Gen.final m c), (h c).2⟩)
      (Cert.Kernel5Ideal.Value.run_blocks (F := Ideal) m g)
  · refine (θ_run Cert.Reference5Ideal.defs _ _).mono (fun r h c => ⟨(h c).1.trans ?_, (h c).2⟩)
      (Cert.Reference5Ideal.Value.run (F := Ideal) m' g')
    exact Cert.Kernel5Ideal.Gen.ref_eq m c _ _ (hag c).1 (hag c).2

/-- The reference of the first step of the Fourier mixing runs, leaves its arguments and leaves every counter at zero. -/
theorem frame_reference6 (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0) :=
  (θ_run Cert.Reference6Ideal.defs _ _).mono (fun r h => ⟨fun c => (h c).2, sem_eq_zero_of_no_sems (by decide) r.2⟩)
    (Cert.Reference6Ideal.Value.run (F := Ideal) m g)

/-- The two results of the first step of the Fourier mixing are equal, from any arguments. -/
theorem algebraic6 : algebraic_Kernel6Ideal_Reference6Ideal (hKernel6Ideal := Cert.Kernel6Ideal.Gen.facts) (hReference6Ideal := Cert.Reference6Ideal.Gen.facts) := by
  intro m g m' g' _ hag
  refine ⟨fun c => Cert.Kernel6Ideal.Gen.result m c, ?_, ?_⟩
  · exact (θ_run Cert.Kernel6Ideal.defs _ _).mono
      (fun r h c => ⟨(h c).1.trans (Cert.Kernel6Ideal.Gen.final m c), (h c).2⟩)
      (Cert.Kernel6Ideal.Value.run_blocks (F := Ideal) m g)
  · refine (θ_run Cert.Reference6Ideal.defs _ _).mono (fun r h c => ⟨(h c).1.trans ?_, (h c).2⟩)
      (Cert.Reference6Ideal.Value.run (F := Ideal) m' g')
    exact Cert.Kernel6Ideal.Gen.ref_eq m c _ (hag c)

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
    preFacts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    fun m g _ => Cert.Kernel2.Gen.frame m g,
    fun m g _ => Cert.Kernel2Ideal.Gen.frame m g,
    fun m g _ => frame_reference2 m g,
    fun m g _ => Cert.Kernel3.Gen.frame m g,
    fun m g _ => Cert.Kernel3Ideal.Gen.frame m g,
    fun m g _ => frame_reference3 m g,
    fun m g _ => Cert.Kernel4.Gen.frame m g,
    fun m g _ => Cert.Kernel4Ideal.Gen.frame m g,
    fun m g _ => frame_reference4 m g,
    fun m g _ => Cert.Kernel5.Gen.frame m g,
    fun m g _ => Cert.Kernel5Ideal.Gen.frame m g,
    fun m g _ => frame_reference5 m g,
    fun m g _ => Cert.Kernel6.Gen.frame m g,
    fun m g _ => Cert.Kernel6Ideal.Gen.frame m g,
    fun m g _ => frame_reference6 m g,
    IdealRules.named_const.statement Cert.KernelIdeal.κ "mask" .f32 0xF149F2CA#32 ⊥ rfl,
    algebraic,
    trivial,
    algebraic2,
    trivial,
    algebraic3,
    trivial,
    algebraic4,
    trivial,
    algebraic5,
    trivial,
    algebraic6⟩

end Cert.Proof

end
